-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 16384, 2048]⟩ ⟨3, ![2, 16384, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16384x2048 : Shape := ⟨3, ![1, 16384, 2048]⟩
abbrev S16384x1024 : Shape := ⟨2, ![16384, 1024]⟩
abbrev S4x128x1024 : Shape := ⟨3, ![4, 128, 1024]⟩
abbrev S4 : Shape := ⟨1, ![4]⟩
abbrev S2 : Shape := ⟨1, ![2]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x16384x2048, .f32⟩
  | .hbm, ⟨1, _⟩ => ⟨S16384x1024, .f32⟩
  | .local _ .vmem, ⟨0, _⟩ => ⟨S4x128x1024, .f32⟩
  | .local _ .vmem, ⟨1, _⟩ => ⟨S4x128x1024, .f32⟩
  | .local _ .vmem, ⟨2, _⟩ => ⟨S4x128x1024, .f32⟩
  | .local _ .vmem, ⟨3, _⟩ => ⟨S4x128x1024, .f32⟩
  | .local _ .vmem, ⟨4, _⟩ => ⟨S4x128x1024, .f32⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7 : BitVec 32 := 2#32
  let v13 : BitVec 32 := Scalar.muli v6 c2_i32_7
  let v14 : BitVec 32 := Scalar.addi c0_i32 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_8 : BitVec 32 := 1#32
  let v15 : BitVec 32 := Scalar.muli v5 c1_i32_8
  let v16 : BitVec 32 := Scalar.addi v14 v15
  v16.toNat
def k0_dev2 (d0 : Dev nD) : Nat :=
  let c0_i32_11 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_10 : BitVec 32 := 2#32
  let v17 : BitVec 32 := Scalar.muli v2 c2_i32_10
  let v18 : BitVec 32 := Scalar.addi c0_i32_11 v17
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_12 : BitVec 32 := 1#32
  let v19 : BitVec 32 := Scalar.muli v7 c1_i32_12
  let v20 : BitVec 32 := Scalar.addi v18 v19
  v20.toNat
def k0_off1 (d0 : Dev nD) (c0_i32_14 : BitVec 32) : Fin 3 → Nat :=
  let c0_i32_15 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v10 : BitVec 32 := Scalar.muli v5 c8192_i32
  let v21 : BitVec 32 := Scalar.addi v10 c0_i32_14
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_4 : BitVec 32 := 1024#32
  let v9 : BitVec 32 := Scalar.muli v6 c1024_i32_4
  ![0, v21.toNat, v9.toNat]
def k0_off2 (d0 : Dev nD) (c0_i32_25 : BitVec 32) : Fin 3 → Nat :=
  let c0_i32_26 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v10 : BitVec 32 := Scalar.muli v5 c8192_i32
  let v35 : BitVec 32 := Scalar.addi v10 c0_i32_25
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  ![0, v35.toNat, v8.toNat]
def k0_dev3 (d0 : Dev nD) : Nat :=
  let c0_i32_42 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_41 : BitVec 32 := 2#32
  let v49 : BitVec 32 := Scalar.muli v6 c2_i32_41
  let v50 : BitVec 32 := Scalar.addi c0_i32_42 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v51 : BitVec 32 := Scalar.muli v5 c1_i32_43
  let v52 : BitVec 32 := Scalar.addi v50 v51
  v52.toNat
def k0_dev4 (d0 : Dev nD) : Nat :=
  let c0_i32_70 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_69 : BitVec 32 := 2#32
  let v82 : BitVec 32 := Scalar.muli v6 c2_i32_69
  let v83 : BitVec 32 := Scalar.addi c0_i32_70 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_71 : BitVec 32 := 1#32
  let v84 : BitVec 32 := Scalar.muli v5 c1_i32_71
  let v85 : BitVec 32 := Scalar.addi v83 v84
  v85.toNat
def k0_off3 (d0 : Dev nD) (c0_i32_110 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c8192_i32 : BitVec 32 := 8192#32
  let v10 : BitVec 32 := Scalar.muli v5 c8192_i32
  let v125 : BitVec 32 := Scalar.addi v10 c0_i32_110
  let c0_i32_113 : BitVec 32 := 0#32
  ![v125.toNat, 0]
def k0_dev5 (d0 : Dev nD) : Nat :=
  let c0_i32_121 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_120 : BitVec 32 := 2#32
  let v131 : BitVec 32 := Scalar.muli v2 c2_i32_120
  let v132 : BitVec 32 := Scalar.addi c0_i32_121 v131
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_122 : BitVec 32 := 1#32
  let v133 : BitVec 32 := Scalar.muli v7 c1_i32_122
  let v134 : BitVec 32 := Scalar.addi v132 v133
  v134.toNat
def k0_dev6 (d0 : Dev nD) : Nat :=
  let c0_i32_148 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_147 : BitVec 32 := 2#32
  let v164 : BitVec 32 := Scalar.muli v6 c2_i32_147
  let v165 : BitVec 32 := Scalar.addi c0_i32_148 v164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v166 : BitVec 32 := Scalar.muli v5 c1_i32_149
  let v167 : BitVec 32 := Scalar.addi v165 v166
  v167.toNat
def k0_dev7 (d0 : Dev nD) : Nat :=
  let c0_i32_205 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_204 : BitVec 32 := 2#32
  let v219 : BitVec 32 := Scalar.muli v2 c2_i32_204
  let v220 : BitVec 32 := Scalar.addi c0_i32_205 v219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_206 : BitVec 32 := 1#32
  let v221 : BitVec 32 := Scalar.muli v7 c1_i32_206
  let v222 : BitVec 32 := Scalar.addi v220 v221
  v222.toNat
def k0_off4 (d0 : Dev nD) (c0_i32_231 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c8192_i32_5 : BitVec 32 := 8192#32
  let v11 : BitVec 32 := Scalar.muli v7 c8192_i32_5
  let v247 : BitVec 32 := Scalar.addi v11 c0_i32_231
  let c0_i32_234 : BitVec 32 := 0#32
  ![v247.toNat, 0]
def k0_dev8 (d0 : Dev nD) : Nat :=
  let c0_i32_259 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_258 : BitVec 32 := 2#32
  let v274 : BitVec 32 := Scalar.muli v6 c2_i32_258
  let v275 : BitVec 32 := Scalar.addi c0_i32_259 v274
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v276 : BitVec 32 := Scalar.muli v5 c1_i32_260
  let v277 : BitVec 32 := Scalar.addi v275 v276
  v277.toNat
def k0_dev9 (d0 : Dev nD) : Nat :=
  let c0_i32_322 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_321 : BitVec 32 := 2#32
  let v335 : BitVec 32 := Scalar.muli v2 c2_i32_321
  let v336 : BitVec 32 := Scalar.addi c0_i32_322 v335
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_323 : BitVec 32 := 1#32
  let v337 : BitVec 32 := Scalar.muli v7 c1_i32_323
  let v338 : BitVec 32 := Scalar.addi v336 v337
  v338.toNat
def k0_dev10 (d0 : Dev nD) : Nat :=
  let c0_i32_376 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_375 : BitVec 32 := 2#32
  let v390 : BitVec 32 := Scalar.muli v6 c2_i32_375
  let v391 : BitVec 32 := Scalar.addi c0_i32_376 v390
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v392 : BitVec 32 := Scalar.muli v5 c1_i32_377
  let v393 : BitVec 32 := Scalar.addi v391 v392
  v393.toNat
def k0_dev11 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v451 : BitVec 32 := Scalar.muli v2 c2_i32_438
  let v452 : BitVec 32 := Scalar.addi c0_i32_439 v451
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_440 : BitVec 32 := 1#32
  let v453 : BitVec 32 := Scalar.muli v7 c1_i32_440
  let v454 : BitVec 32 := Scalar.addi v452 v453
  v454.toNat
def k0_dev12 (d0 : Dev nD) : Nat :=
  let c0_i32_493 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_492 : BitVec 32 := 2#32
  let v506 : BitVec 32 := Scalar.muli v6 c2_i32_492
  let v507 : BitVec 32 := Scalar.addi c0_i32_493 v506
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_494 : BitVec 32 := 1#32
  let v508 : BitVec 32 := Scalar.muli v5 c1_i32_494
  let v509 : BitVec 32 := Scalar.addi v507 v508
  v509.toNat
def k0_dev13 (d0 : Dev nD) : Nat :=
  let c0_i32_557 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_556 : BitVec 32 := 2#32
  let v567 : BitVec 32 := Scalar.muli v2 c2_i32_556
  let v568 : BitVec 32 := Scalar.addi c0_i32_557 v567
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_558 : BitVec 32 := 1#32
  let v569 : BitVec 32 := Scalar.muli v7 c1_i32_558
  let v570 : BitVec 32 := Scalar.addi v568 v569
  v570.toNat
def k0_dev14 (d0 : Dev nD) : Nat :=
  let c0_i32_611 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_610 : BitVec 32 := 2#32
  let v622 : BitVec 32 := Scalar.muli v6 c2_i32_610
  let v623 : BitVec 32 := Scalar.addi c0_i32_611 v622
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_612 : BitVec 32 := 1#32
  let v624 : BitVec 32 := Scalar.muli v5 c1_i32_612
  let v625 : BitVec 32 := Scalar.addi v623 v624
  v625.toNat
def k0_dev15 (d0 : Dev nD) : Nat :=
  let c0_i32_675 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_674 : BitVec 32 := 2#32
  let v683 : BitVec 32 := Scalar.muli v2 c2_i32_674
  let v684 : BitVec 32 := Scalar.addi c0_i32_675 v683
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_676 : BitVec 32 := 1#32
  let v685 : BitVec 32 := Scalar.muli v7 c1_i32_676
  let v686 : BitVec 32 := Scalar.addi v684 v685
  v686.toNat
def k0_dev16 (d0 : Dev nD) : Nat :=
  let c0_i32_730 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_729 : BitVec 32 := 2#32
  let v738 : BitVec 32 := Scalar.muli v6 c2_i32_729
  let v739 : BitVec 32 := Scalar.addi c0_i32_730 v738
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_731 : BitVec 32 := 1#32
  let v740 : BitVec 32 := Scalar.muli v5 c1_i32_731
  let v741 : BitVec 32 := Scalar.addi v739 v740
  v741.toNat
def k0_dev17 (d0 : Dev nD) : Nat :=
  let c0_i32_794 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_793 : BitVec 32 := 2#32
  let v799 : BitVec 32 := Scalar.muli v2 c2_i32_793
  let v800 : BitVec 32 := Scalar.addi c0_i32_794 v799
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_795 : BitVec 32 := 1#32
  let v801 : BitVec 32 := Scalar.muli v7 c1_i32_795
  let v802 : BitVec 32 := Scalar.addi v800 v801
  v802.toNat
def k0_dev18 (d0 : Dev nD) : Nat :=
  let c0_i32_848 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_847 : BitVec 32 := 2#32
  let v854 : BitVec 32 := Scalar.muli v6 c2_i32_847
  let v855 : BitVec 32 := Scalar.addi c0_i32_848 v854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_849 : BitVec 32 := 1#32
  let v856 : BitVec 32 := Scalar.muli v5 c1_i32_849
  let v857 : BitVec 32 := Scalar.addi v855 v856
  v857.toNat
def k0_dev19 (d0 : Dev nD) : Nat :=
  let c0_i32_912 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_911 : BitVec 32 := 2#32
  let v915 : BitVec 32 := Scalar.muli v2 c2_i32_911
  let v916 : BitVec 32 := Scalar.addi c0_i32_912 v915
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_913 : BitVec 32 := 1#32
  let v917 : BitVec 32 := Scalar.muli v7 c1_i32_913
  let v918 : BitVec 32 := Scalar.addi v916 v917
  v918.toNat
def k0_dev20 (d0 : Dev nD) : Nat :=
  let c0_i32_966 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_965 : BitVec 32 := 2#32
  let v970 : BitVec 32 := Scalar.muli v6 c2_i32_965
  let v971 : BitVec 32 := Scalar.addi c0_i32_966 v970
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_967 : BitVec 32 := 1#32
  let v972 : BitVec 32 := Scalar.muli v5 c1_i32_967
  let v973 : BitVec 32 := Scalar.addi v971 v972
  v973.toNat
def k0_dev21 (d0 : Dev nD) : Nat :=
  let c0_i32_1030 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1029 : BitVec 32 := 2#32
  let v1031 : BitVec 32 := Scalar.muli v2 c2_i32_1029
  let v1032 : BitVec 32 := Scalar.addi c0_i32_1030 v1031
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1031 : BitVec 32 := 1#32
  let v1033 : BitVec 32 := Scalar.muli v7 c1_i32_1031
  let v1034 : BitVec 32 := Scalar.addi v1032 v1033
  v1034.toNat
def k0_dev22 (d0 : Dev nD) : Nat :=
  let c0_i32_1084 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1083 : BitVec 32 := 2#32
  let v1086 : BitVec 32 := Scalar.muli v6 c2_i32_1083
  let v1087 : BitVec 32 := Scalar.addi c0_i32_1084 v1086
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1085 : BitVec 32 := 1#32
  let v1088 : BitVec 32 := Scalar.muli v5 c1_i32_1085
  let v1089 : BitVec 32 := Scalar.addi v1087 v1088
  v1089.toNat
def k0_dev23 (d0 : Dev nD) : Nat :=
  let c0_i32_1148 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1147 : BitVec 32 := 2#32
  let v1147 : BitVec 32 := Scalar.muli v2 c2_i32_1147
  let v1148 : BitVec 32 := Scalar.addi c0_i32_1148 v1147
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1149 : BitVec 32 := 1#32
  let v1149 : BitVec 32 := Scalar.muli v7 c1_i32_1149
  let v1150 : BitVec 32 := Scalar.addi v1148 v1149
  v1150.toNat
def k0_dev24 (d0 : Dev nD) : Nat :=
  let c0_i32_1202 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1201 : BitVec 32 := 2#32
  let v1202 : BitVec 32 := Scalar.muli v6 c2_i32_1201
  let v1203 : BitVec 32 := Scalar.addi c0_i32_1202 v1202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1203 : BitVec 32 := 1#32
  let v1204 : BitVec 32 := Scalar.muli v5 c1_i32_1203
  let v1205 : BitVec 32 := Scalar.addi v1203 v1204
  v1205.toNat
def k0_dev25 (d0 : Dev nD) : Nat :=
  let c0_i32_1266 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1265 : BitVec 32 := 2#32
  let v1263 : BitVec 32 := Scalar.muli v2 c2_i32_1265
  let v1264 : BitVec 32 := Scalar.addi c0_i32_1266 v1263
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1267 : BitVec 32 := 1#32
  let v1265 : BitVec 32 := Scalar.muli v7 c1_i32_1267
  let v1266 : BitVec 32 := Scalar.addi v1264 v1265
  v1266.toNat
def k0_dev26 (d0 : Dev nD) : Nat :=
  let c0_i32_1320 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1319 : BitVec 32 := 2#32
  let v1318 : BitVec 32 := Scalar.muli v6 c2_i32_1319
  let v1319 : BitVec 32 := Scalar.addi c0_i32_1320 v1318
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1321 : BitVec 32 := 1#32
  let v1320 : BitVec 32 := Scalar.muli v5 c1_i32_1321
  let v1321 : BitVec 32 := Scalar.addi v1319 v1320
  v1321.toNat
def k0_dev27 (d0 : Dev nD) : Nat :=
  let c0_i32_1384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1383 : BitVec 32 := 2#32
  let v1379 : BitVec 32 := Scalar.muli v2 c2_i32_1383
  let v1380 : BitVec 32 := Scalar.addi c0_i32_1384 v1379
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1385 : BitVec 32 := 1#32
  let v1381 : BitVec 32 := Scalar.muli v7 c1_i32_1385
  let v1382 : BitVec 32 := Scalar.addi v1380 v1381
  v1382.toNat
def k0_dev28 (d0 : Dev nD) : Nat :=
  let c0_i32_1438 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1437 : BitVec 32 := 2#32
  let v1434 : BitVec 32 := Scalar.muli v6 c2_i32_1437
  let v1435 : BitVec 32 := Scalar.addi c0_i32_1438 v1434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1439 : BitVec 32 := 1#32
  let v1436 : BitVec 32 := Scalar.muli v5 c1_i32_1439
  let v1437 : BitVec 32 := Scalar.addi v1435 v1436
  v1437.toNat
def k0_dev29 (d0 : Dev nD) : Nat :=
  let c0_i32_1502 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1501 : BitVec 32 := 2#32
  let v1495 : BitVec 32 := Scalar.muli v2 c2_i32_1501
  let v1496 : BitVec 32 := Scalar.addi c0_i32_1502 v1495
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1503 : BitVec 32 := 1#32
  let v1497 : BitVec 32 := Scalar.muli v7 c1_i32_1503
  let v1498 : BitVec 32 := Scalar.addi v1496 v1497
  v1498.toNat
def k0_dev30 (d0 : Dev nD) : Nat :=
  let c0_i32_1556 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1555 : BitVec 32 := 2#32
  let v1550 : BitVec 32 := Scalar.muli v6 c2_i32_1555
  let v1551 : BitVec 32 := Scalar.addi c0_i32_1556 v1550
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1557 : BitVec 32 := 1#32
  let v1552 : BitVec 32 := Scalar.muli v5 c1_i32_1557
  let v1553 : BitVec 32 := Scalar.addi v1551 v1552
  v1553.toNat
def k0_dev31 (d0 : Dev nD) : Nat :=
  let c0_i32_1620 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1619 : BitVec 32 := 2#32
  let v1611 : BitVec 32 := Scalar.muli v2 c2_i32_1619
  let v1612 : BitVec 32 := Scalar.addi c0_i32_1620 v1611
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1621 : BitVec 32 := 1#32
  let v1613 : BitVec 32 := Scalar.muli v7 c1_i32_1621
  let v1614 : BitVec 32 := Scalar.addi v1612 v1613
  v1614.toNat
def k0_dev32 (d0 : Dev nD) : Nat :=
  let c0_i32_1674 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1673 : BitVec 32 := 2#32
  let v1666 : BitVec 32 := Scalar.muli v6 c2_i32_1673
  let v1667 : BitVec 32 := Scalar.addi c0_i32_1674 v1666
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1675 : BitVec 32 := 1#32
  let v1668 : BitVec 32 := Scalar.muli v5 c1_i32_1675
  let v1669 : BitVec 32 := Scalar.addi v1667 v1668
  v1669.toNat
def k0_dev33 (d0 : Dev nD) : Nat :=
  let c0_i32_1738 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1737 : BitVec 32 := 2#32
  let v1727 : BitVec 32 := Scalar.muli v2 c2_i32_1737
  let v1728 : BitVec 32 := Scalar.addi c0_i32_1738 v1727
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1739 : BitVec 32 := 1#32
  let v1729 : BitVec 32 := Scalar.muli v7 c1_i32_1739
  let v1730 : BitVec 32 := Scalar.addi v1728 v1729
  v1730.toNat
def k0_dev34 (d0 : Dev nD) : Nat :=
  let c0_i32_1792 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1791 : BitVec 32 := 2#32
  let v1782 : BitVec 32 := Scalar.muli v6 c2_i32_1791
  let v1783 : BitVec 32 := Scalar.addi c0_i32_1792 v1782
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1793 : BitVec 32 := 1#32
  let v1784 : BitVec 32 := Scalar.muli v5 c1_i32_1793
  let v1785 : BitVec 32 := Scalar.addi v1783 v1784
  v1785.toNat
def k0_dev35 (d0 : Dev nD) : Nat :=
  let c0_i32_1856 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1855 : BitVec 32 := 2#32
  let v1843 : BitVec 32 := Scalar.muli v2 c2_i32_1855
  let v1844 : BitVec 32 := Scalar.addi c0_i32_1856 v1843
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1857 : BitVec 32 := 1#32
  let v1845 : BitVec 32 := Scalar.muli v7 c1_i32_1857
  let v1846 : BitVec 32 := Scalar.addi v1844 v1845
  v1846.toNat
def k0_dev36 (d0 : Dev nD) : Nat :=
  let c0_i32_1910 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1909 : BitVec 32 := 2#32
  let v1898 : BitVec 32 := Scalar.muli v6 c2_i32_1909
  let v1899 : BitVec 32 := Scalar.addi c0_i32_1910 v1898
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1911 : BitVec 32 := 1#32
  let v1900 : BitVec 32 := Scalar.muli v5 c1_i32_1911
  let v1901 : BitVec 32 := Scalar.addi v1899 v1900
  v1901.toNat
def k0_dev37 (d0 : Dev nD) : Nat :=
  let c0_i32_1974 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1973 : BitVec 32 := 2#32
  let v1959 : BitVec 32 := Scalar.muli v2 c2_i32_1973
  let v1960 : BitVec 32 := Scalar.addi c0_i32_1974 v1959
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1975 : BitVec 32 := 1#32
  let v1961 : BitVec 32 := Scalar.muli v7 c1_i32_1975
  let v1962 : BitVec 32 := Scalar.addi v1960 v1961
  v1962.toNat
def k0_dev38 (d0 : Dev nD) : Nat :=
  let c0_i32_2028 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2027 : BitVec 32 := 2#32
  let v2014 : BitVec 32 := Scalar.muli v6 c2_i32_2027
  let v2015 : BitVec 32 := Scalar.addi c0_i32_2028 v2014
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2029 : BitVec 32 := 1#32
  let v2016 : BitVec 32 := Scalar.muli v5 c1_i32_2029
  let v2017 : BitVec 32 := Scalar.addi v2015 v2016
  v2017.toNat
def k0_dev39 (d0 : Dev nD) : Nat :=
  let c0_i32_2092 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2091 : BitVec 32 := 2#32
  let v2075 : BitVec 32 := Scalar.muli v2 c2_i32_2091
  let v2076 : BitVec 32 := Scalar.addi c0_i32_2092 v2075
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2093 : BitVec 32 := 1#32
  let v2077 : BitVec 32 := Scalar.muli v7 c1_i32_2093
  let v2078 : BitVec 32 := Scalar.addi v2076 v2077
  v2078.toNat
def k0_dev40 (d0 : Dev nD) : Nat :=
  let c0_i32_2146 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2145 : BitVec 32 := 2#32
  let v2130 : BitVec 32 := Scalar.muli v6 c2_i32_2145
  let v2131 : BitVec 32 := Scalar.addi c0_i32_2146 v2130
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2147 : BitVec 32 := 1#32
  let v2132 : BitVec 32 := Scalar.muli v5 c1_i32_2147
  let v2133 : BitVec 32 := Scalar.addi v2131 v2132
  v2133.toNat
def k0_dev41 (d0 : Dev nD) : Nat :=
  let c0_i32_2210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2209 : BitVec 32 := 2#32
  let v2191 : BitVec 32 := Scalar.muli v2 c2_i32_2209
  let v2192 : BitVec 32 := Scalar.addi c0_i32_2210 v2191
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2211 : BitVec 32 := 1#32
  let v2193 : BitVec 32 := Scalar.muli v7 c1_i32_2211
  let v2194 : BitVec 32 := Scalar.addi v2192 v2193
  v2194.toNat
def k0_dev42 (d0 : Dev nD) : Nat :=
  let c0_i32_2264 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2263 : BitVec 32 := 2#32
  let v2246 : BitVec 32 := Scalar.muli v6 c2_i32_2263
  let v2247 : BitVec 32 := Scalar.addi c0_i32_2264 v2246
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2265 : BitVec 32 := 1#32
  let v2248 : BitVec 32 := Scalar.muli v5 c1_i32_2265
  let v2249 : BitVec 32 := Scalar.addi v2247 v2248
  v2249.toNat
def k0_dev43 (d0 : Dev nD) : Nat :=
  let c0_i32_2328 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2327 : BitVec 32 := 2#32
  let v2307 : BitVec 32 := Scalar.muli v2 c2_i32_2327
  let v2308 : BitVec 32 := Scalar.addi c0_i32_2328 v2307
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2329 : BitVec 32 := 1#32
  let v2309 : BitVec 32 := Scalar.muli v7 c1_i32_2329
  let v2310 : BitVec 32 := Scalar.addi v2308 v2309
  v2310.toNat
def k0_dev44 (d0 : Dev nD) : Nat :=
  let c0_i32_2382 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2381 : BitVec 32 := 2#32
  let v2362 : BitVec 32 := Scalar.muli v6 c2_i32_2381
  let v2363 : BitVec 32 := Scalar.addi c0_i32_2382 v2362
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2383 : BitVec 32 := 1#32
  let v2364 : BitVec 32 := Scalar.muli v5 c1_i32_2383
  let v2365 : BitVec 32 := Scalar.addi v2363 v2364
  v2365.toNat
def k0_dev45 (d0 : Dev nD) : Nat :=
  let c0_i32_2446 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2445 : BitVec 32 := 2#32
  let v2423 : BitVec 32 := Scalar.muli v2 c2_i32_2445
  let v2424 : BitVec 32 := Scalar.addi c0_i32_2446 v2423
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2447 : BitVec 32 := 1#32
  let v2425 : BitVec 32 := Scalar.muli v7 c1_i32_2447
  let v2426 : BitVec 32 := Scalar.addi v2424 v2425
  v2426.toNat
def k0_dev46 (d0 : Dev nD) : Nat :=
  let c0_i32_2500 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2499 : BitVec 32 := 2#32
  let v2478 : BitVec 32 := Scalar.muli v6 c2_i32_2499
  let v2479 : BitVec 32 := Scalar.addi c0_i32_2500 v2478
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2501 : BitVec 32 := 1#32
  let v2480 : BitVec 32 := Scalar.muli v5 c1_i32_2501
  let v2481 : BitVec 32 := Scalar.addi v2479 v2480
  v2481.toNat
def k0_dev47 (d0 : Dev nD) : Nat :=
  let c0_i32_2564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2563 : BitVec 32 := 2#32
  let v2539 : BitVec 32 := Scalar.muli v2 c2_i32_2563
  let v2540 : BitVec 32 := Scalar.addi c0_i32_2564 v2539
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2565 : BitVec 32 := 1#32
  let v2541 : BitVec 32 := Scalar.muli v7 c1_i32_2565
  let v2542 : BitVec 32 := Scalar.addi v2540 v2541
  v2542.toNat
def k0_dev48 (d0 : Dev nD) : Nat :=
  let c0_i32_2618 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2617 : BitVec 32 := 2#32
  let v2594 : BitVec 32 := Scalar.muli v6 c2_i32_2617
  let v2595 : BitVec 32 := Scalar.addi c0_i32_2618 v2594
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2619 : BitVec 32 := 1#32
  let v2596 : BitVec 32 := Scalar.muli v5 c1_i32_2619
  let v2597 : BitVec 32 := Scalar.addi v2595 v2596
  v2597.toNat
def k0_dev49 (d0 : Dev nD) : Nat :=
  let c0_i32_2682 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2681 : BitVec 32 := 2#32
  let v2655 : BitVec 32 := Scalar.muli v2 c2_i32_2681
  let v2656 : BitVec 32 := Scalar.addi c0_i32_2682 v2655
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2683 : BitVec 32 := 1#32
  let v2657 : BitVec 32 := Scalar.muli v7 c1_i32_2683
  let v2658 : BitVec 32 := Scalar.addi v2656 v2657
  v2658.toNat
def k0_dev50 (d0 : Dev nD) : Nat :=
  let c0_i32_2736 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2735 : BitVec 32 := 2#32
  let v2710 : BitVec 32 := Scalar.muli v6 c2_i32_2735
  let v2711 : BitVec 32 := Scalar.addi c0_i32_2736 v2710
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2737 : BitVec 32 := 1#32
  let v2712 : BitVec 32 := Scalar.muli v5 c1_i32_2737
  let v2713 : BitVec 32 := Scalar.addi v2711 v2712
  v2713.toNat
def k0_dev51 (d0 : Dev nD) : Nat :=
  let c0_i32_2800 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2799 : BitVec 32 := 2#32
  let v2771 : BitVec 32 := Scalar.muli v2 c2_i32_2799
  let v2772 : BitVec 32 := Scalar.addi c0_i32_2800 v2771
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2801 : BitVec 32 := 1#32
  let v2773 : BitVec 32 := Scalar.muli v7 c1_i32_2801
  let v2774 : BitVec 32 := Scalar.addi v2772 v2773
  v2774.toNat
def k0_dev52 (d0 : Dev nD) : Nat :=
  let c0_i32_2854 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2853 : BitVec 32 := 2#32
  let v2826 : BitVec 32 := Scalar.muli v6 c2_i32_2853
  let v2827 : BitVec 32 := Scalar.addi c0_i32_2854 v2826
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2855 : BitVec 32 := 1#32
  let v2828 : BitVec 32 := Scalar.muli v5 c1_i32_2855
  let v2829 : BitVec 32 := Scalar.addi v2827 v2828
  v2829.toNat
def k0_dev53 (d0 : Dev nD) : Nat :=
  let c0_i32_2918 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_2917 : BitVec 32 := 2#32
  let v2887 : BitVec 32 := Scalar.muli v2 c2_i32_2917
  let v2888 : BitVec 32 := Scalar.addi c0_i32_2918 v2887
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_2919 : BitVec 32 := 1#32
  let v2889 : BitVec 32 := Scalar.muli v7 c1_i32_2919
  let v2890 : BitVec 32 := Scalar.addi v2888 v2889
  v2890.toNat
def k0_dev54 (d0 : Dev nD) : Nat :=
  let c0_i32_2972 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_2971 : BitVec 32 := 2#32
  let v2942 : BitVec 32 := Scalar.muli v6 c2_i32_2971
  let v2943 : BitVec 32 := Scalar.addi c0_i32_2972 v2942
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2973 : BitVec 32 := 1#32
  let v2944 : BitVec 32 := Scalar.muli v5 c1_i32_2973
  let v2945 : BitVec 32 := Scalar.addi v2943 v2944
  v2945.toNat
def k0_dev55 (d0 : Dev nD) : Nat :=
  let c0_i32_3036 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3035 : BitVec 32 := 2#32
  let v3003 : BitVec 32 := Scalar.muli v2 c2_i32_3035
  let v3004 : BitVec 32 := Scalar.addi c0_i32_3036 v3003
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3037 : BitVec 32 := 1#32
  let v3005 : BitVec 32 := Scalar.muli v7 c1_i32_3037
  let v3006 : BitVec 32 := Scalar.addi v3004 v3005
  v3006.toNat
def k0_dev56 (d0 : Dev nD) : Nat :=
  let c0_i32_3090 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3089 : BitVec 32 := 2#32
  let v3058 : BitVec 32 := Scalar.muli v6 c2_i32_3089
  let v3059 : BitVec 32 := Scalar.addi c0_i32_3090 v3058
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3091 : BitVec 32 := 1#32
  let v3060 : BitVec 32 := Scalar.muli v5 c1_i32_3091
  let v3061 : BitVec 32 := Scalar.addi v3059 v3060
  v3061.toNat
def k0_dev57 (d0 : Dev nD) : Nat :=
  let c0_i32_3154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3153 : BitVec 32 := 2#32
  let v3119 : BitVec 32 := Scalar.muli v2 c2_i32_3153
  let v3120 : BitVec 32 := Scalar.addi c0_i32_3154 v3119
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3155 : BitVec 32 := 1#32
  let v3121 : BitVec 32 := Scalar.muli v7 c1_i32_3155
  let v3122 : BitVec 32 := Scalar.addi v3120 v3121
  v3122.toNat
def k0_dev58 (d0 : Dev nD) : Nat :=
  let c0_i32_3208 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3207 : BitVec 32 := 2#32
  let v3174 : BitVec 32 := Scalar.muli v6 c2_i32_3207
  let v3175 : BitVec 32 := Scalar.addi c0_i32_3208 v3174
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3209 : BitVec 32 := 1#32
  let v3176 : BitVec 32 := Scalar.muli v5 c1_i32_3209
  let v3177 : BitVec 32 := Scalar.addi v3175 v3176
  v3177.toNat
def k0_dev59 (d0 : Dev nD) : Nat :=
  let c0_i32_3272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3271 : BitVec 32 := 2#32
  let v3235 : BitVec 32 := Scalar.muli v2 c2_i32_3271
  let v3236 : BitVec 32 := Scalar.addi c0_i32_3272 v3235
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3273 : BitVec 32 := 1#32
  let v3237 : BitVec 32 := Scalar.muli v7 c1_i32_3273
  let v3238 : BitVec 32 := Scalar.addi v3236 v3237
  v3238.toNat
def k0_dev60 (d0 : Dev nD) : Nat :=
  let c0_i32_3326 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3325 : BitVec 32 := 2#32
  let v3290 : BitVec 32 := Scalar.muli v6 c2_i32_3325
  let v3291 : BitVec 32 := Scalar.addi c0_i32_3326 v3290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3327 : BitVec 32 := 1#32
  let v3292 : BitVec 32 := Scalar.muli v5 c1_i32_3327
  let v3293 : BitVec 32 := Scalar.addi v3291 v3292
  v3293.toNat
def k0_dev61 (d0 : Dev nD) : Nat :=
  let c0_i32_3390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3389 : BitVec 32 := 2#32
  let v3351 : BitVec 32 := Scalar.muli v2 c2_i32_3389
  let v3352 : BitVec 32 := Scalar.addi c0_i32_3390 v3351
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3391 : BitVec 32 := 1#32
  let v3353 : BitVec 32 := Scalar.muli v7 c1_i32_3391
  let v3354 : BitVec 32 := Scalar.addi v3352 v3353
  v3354.toNat
def k0_dev62 (d0 : Dev nD) : Nat :=
  let c0_i32_3444 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3443 : BitVec 32 := 2#32
  let v3406 : BitVec 32 := Scalar.muli v6 c2_i32_3443
  let v3407 : BitVec 32 := Scalar.addi c0_i32_3444 v3406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3445 : BitVec 32 := 1#32
  let v3408 : BitVec 32 := Scalar.muli v5 c1_i32_3445
  let v3409 : BitVec 32 := Scalar.addi v3407 v3408
  v3409.toNat
def k0_dev63 (d0 : Dev nD) : Nat :=
  let c0_i32_3508 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3507 : BitVec 32 := 2#32
  let v3467 : BitVec 32 := Scalar.muli v2 c2_i32_3507
  let v3468 : BitVec 32 := Scalar.addi c0_i32_3508 v3467
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3509 : BitVec 32 := 1#32
  let v3469 : BitVec 32 := Scalar.muli v7 c1_i32_3509
  let v3470 : BitVec 32 := Scalar.addi v3468 v3469
  v3470.toNat
def k0_dev64 (d0 : Dev nD) : Nat :=
  let c0_i32_3562 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3561 : BitVec 32 := 2#32
  let v3522 : BitVec 32 := Scalar.muli v6 c2_i32_3561
  let v3523 : BitVec 32 := Scalar.addi c0_i32_3562 v3522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3563 : BitVec 32 := 1#32
  let v3524 : BitVec 32 := Scalar.muli v5 c1_i32_3563
  let v3525 : BitVec 32 := Scalar.addi v3523 v3524
  v3525.toNat
def k0_dev65 (d0 : Dev nD) : Nat :=
  let c0_i32_3626 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3625 : BitVec 32 := 2#32
  let v3583 : BitVec 32 := Scalar.muli v2 c2_i32_3625
  let v3584 : BitVec 32 := Scalar.addi c0_i32_3626 v3583
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3627 : BitVec 32 := 1#32
  let v3585 : BitVec 32 := Scalar.muli v7 c1_i32_3627
  let v3586 : BitVec 32 := Scalar.addi v3584 v3585
  v3586.toNat
def k0_dev66 (d0 : Dev nD) : Nat :=
  let c0_i32_3680 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3679 : BitVec 32 := 2#32
  let v3638 : BitVec 32 := Scalar.muli v6 c2_i32_3679
  let v3639 : BitVec 32 := Scalar.addi c0_i32_3680 v3638
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3681 : BitVec 32 := 1#32
  let v3640 : BitVec 32 := Scalar.muli v5 c1_i32_3681
  let v3641 : BitVec 32 := Scalar.addi v3639 v3640
  v3641.toNat
def k0_dev67 (d0 : Dev nD) : Nat :=
  let c0_i32_3744 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3743 : BitVec 32 := 2#32
  let v3699 : BitVec 32 := Scalar.muli v2 c2_i32_3743
  let v3700 : BitVec 32 := Scalar.addi c0_i32_3744 v3699
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3745 : BitVec 32 := 1#32
  let v3701 : BitVec 32 := Scalar.muli v7 c1_i32_3745
  let v3702 : BitVec 32 := Scalar.addi v3700 v3701
  v3702.toNat
def k0_dev68 (d0 : Dev nD) : Nat :=
  let c0_i32_3798 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3797 : BitVec 32 := 2#32
  let v3754 : BitVec 32 := Scalar.muli v6 c2_i32_3797
  let v3755 : BitVec 32 := Scalar.addi c0_i32_3798 v3754
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3799 : BitVec 32 := 1#32
  let v3756 : BitVec 32 := Scalar.muli v5 c1_i32_3799
  let v3757 : BitVec 32 := Scalar.addi v3755 v3756
  v3757.toNat
def k0_dev69 (d0 : Dev nD) : Nat :=
  let c0_i32_3862 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3861 : BitVec 32 := 2#32
  let v3815 : BitVec 32 := Scalar.muli v2 c2_i32_3861
  let v3816 : BitVec 32 := Scalar.addi c0_i32_3862 v3815
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3863 : BitVec 32 := 1#32
  let v3817 : BitVec 32 := Scalar.muli v7 c1_i32_3863
  let v3818 : BitVec 32 := Scalar.addi v3816 v3817
  v3818.toNat
def k0_dev70 (d0 : Dev nD) : Nat :=
  let c0_i32_3916 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_3915 : BitVec 32 := 2#32
  let v3870 : BitVec 32 := Scalar.muli v6 c2_i32_3915
  let v3871 : BitVec 32 := Scalar.addi c0_i32_3916 v3870
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3917 : BitVec 32 := 1#32
  let v3872 : BitVec 32 := Scalar.muli v5 c1_i32_3917
  let v3873 : BitVec 32 := Scalar.addi v3871 v3872
  v3873.toNat
def k0_dev71 (d0 : Dev nD) : Nat :=
  let c0_i32_3980 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_3979 : BitVec 32 := 2#32
  let v3931 : BitVec 32 := Scalar.muli v2 c2_i32_3979
  let v3932 : BitVec 32 := Scalar.addi c0_i32_3980 v3931
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_3981 : BitVec 32 := 1#32
  let v3933 : BitVec 32 := Scalar.muli v7 c1_i32_3981
  let v3934 : BitVec 32 := Scalar.addi v3932 v3933
  v3934.toNat
def k0_dev72 (d0 : Dev nD) : Nat :=
  let c0_i32_4034 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4033 : BitVec 32 := 2#32
  let v3986 : BitVec 32 := Scalar.muli v6 c2_i32_4033
  let v3987 : BitVec 32 := Scalar.addi c0_i32_4034 v3986
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4035 : BitVec 32 := 1#32
  let v3988 : BitVec 32 := Scalar.muli v5 c1_i32_4035
  let v3989 : BitVec 32 := Scalar.addi v3987 v3988
  v3989.toNat
def k0_dev73 (d0 : Dev nD) : Nat :=
  let c0_i32_4098 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4097 : BitVec 32 := 2#32
  let v4047 : BitVec 32 := Scalar.muli v2 c2_i32_4097
  let v4048 : BitVec 32 := Scalar.addi c0_i32_4098 v4047
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4099 : BitVec 32 := 1#32
  let v4049 : BitVec 32 := Scalar.muli v7 c1_i32_4099
  let v4050 : BitVec 32 := Scalar.addi v4048 v4049
  v4050.toNat
def k0_dev74 (d0 : Dev nD) : Nat :=
  let c0_i32_4152 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4151 : BitVec 32 := 2#32
  let v4102 : BitVec 32 := Scalar.muli v6 c2_i32_4151
  let v4103 : BitVec 32 := Scalar.addi c0_i32_4152 v4102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4153 : BitVec 32 := 1#32
  let v4104 : BitVec 32 := Scalar.muli v5 c1_i32_4153
  let v4105 : BitVec 32 := Scalar.addi v4103 v4104
  v4105.toNat
def k0_dev75 (d0 : Dev nD) : Nat :=
  let c0_i32_4216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4215 : BitVec 32 := 2#32
  let v4163 : BitVec 32 := Scalar.muli v2 c2_i32_4215
  let v4164 : BitVec 32 := Scalar.addi c0_i32_4216 v4163
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4217 : BitVec 32 := 1#32
  let v4165 : BitVec 32 := Scalar.muli v7 c1_i32_4217
  let v4166 : BitVec 32 := Scalar.addi v4164 v4165
  v4166.toNat
def k0_dev76 (d0 : Dev nD) : Nat :=
  let c0_i32_4270 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4269 : BitVec 32 := 2#32
  let v4218 : BitVec 32 := Scalar.muli v6 c2_i32_4269
  let v4219 : BitVec 32 := Scalar.addi c0_i32_4270 v4218
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4271 : BitVec 32 := 1#32
  let v4220 : BitVec 32 := Scalar.muli v5 c1_i32_4271
  let v4221 : BitVec 32 := Scalar.addi v4219 v4220
  v4221.toNat
def k0_dev77 (d0 : Dev nD) : Nat :=
  let c0_i32_4334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4333 : BitVec 32 := 2#32
  let v4279 : BitVec 32 := Scalar.muli v2 c2_i32_4333
  let v4280 : BitVec 32 := Scalar.addi c0_i32_4334 v4279
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4335 : BitVec 32 := 1#32
  let v4281 : BitVec 32 := Scalar.muli v7 c1_i32_4335
  let v4282 : BitVec 32 := Scalar.addi v4280 v4281
  v4282.toNat
def k0_dev78 (d0 : Dev nD) : Nat :=
  let c0_i32_4388 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4387 : BitVec 32 := 2#32
  let v4334 : BitVec 32 := Scalar.muli v6 c2_i32_4387
  let v4335 : BitVec 32 := Scalar.addi c0_i32_4388 v4334
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4389 : BitVec 32 := 1#32
  let v4336 : BitVec 32 := Scalar.muli v5 c1_i32_4389
  let v4337 : BitVec 32 := Scalar.addi v4335 v4336
  v4337.toNat
def k0_dev79 (d0 : Dev nD) : Nat :=
  let c0_i32_4452 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4451 : BitVec 32 := 2#32
  let v4395 : BitVec 32 := Scalar.muli v2 c2_i32_4451
  let v4396 : BitVec 32 := Scalar.addi c0_i32_4452 v4395
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4453 : BitVec 32 := 1#32
  let v4397 : BitVec 32 := Scalar.muli v7 c1_i32_4453
  let v4398 : BitVec 32 := Scalar.addi v4396 v4397
  v4398.toNat
def k0_dev80 (d0 : Dev nD) : Nat :=
  let c0_i32_4506 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4505 : BitVec 32 := 2#32
  let v4450 : BitVec 32 := Scalar.muli v6 c2_i32_4505
  let v4451 : BitVec 32 := Scalar.addi c0_i32_4506 v4450
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4507 : BitVec 32 := 1#32
  let v4452 : BitVec 32 := Scalar.muli v5 c1_i32_4507
  let v4453 : BitVec 32 := Scalar.addi v4451 v4452
  v4453.toNat
def k0_dev81 (d0 : Dev nD) : Nat :=
  let c0_i32_4570 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4569 : BitVec 32 := 2#32
  let v4511 : BitVec 32 := Scalar.muli v2 c2_i32_4569
  let v4512 : BitVec 32 := Scalar.addi c0_i32_4570 v4511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4571 : BitVec 32 := 1#32
  let v4513 : BitVec 32 := Scalar.muli v7 c1_i32_4571
  let v4514 : BitVec 32 := Scalar.addi v4512 v4513
  v4514.toNat
def k0_dev82 (d0 : Dev nD) : Nat :=
  let c0_i32_4624 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4623 : BitVec 32 := 2#32
  let v4566 : BitVec 32 := Scalar.muli v6 c2_i32_4623
  let v4567 : BitVec 32 := Scalar.addi c0_i32_4624 v4566
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4625 : BitVec 32 := 1#32
  let v4568 : BitVec 32 := Scalar.muli v5 c1_i32_4625
  let v4569 : BitVec 32 := Scalar.addi v4567 v4568
  v4569.toNat
def k0_dev83 (d0 : Dev nD) : Nat :=
  let c0_i32_4688 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4687 : BitVec 32 := 2#32
  let v4627 : BitVec 32 := Scalar.muli v2 c2_i32_4687
  let v4628 : BitVec 32 := Scalar.addi c0_i32_4688 v4627
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4689 : BitVec 32 := 1#32
  let v4629 : BitVec 32 := Scalar.muli v7 c1_i32_4689
  let v4630 : BitVec 32 := Scalar.addi v4628 v4629
  v4630.toNat
def k0_dev84 (d0 : Dev nD) : Nat :=
  let c0_i32_4742 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4741 : BitVec 32 := 2#32
  let v4682 : BitVec 32 := Scalar.muli v6 c2_i32_4741
  let v4683 : BitVec 32 := Scalar.addi c0_i32_4742 v4682
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4743 : BitVec 32 := 1#32
  let v4684 : BitVec 32 := Scalar.muli v5 c1_i32_4743
  let v4685 : BitVec 32 := Scalar.addi v4683 v4684
  v4685.toNat
def k0_dev85 (d0 : Dev nD) : Nat :=
  let c0_i32_4806 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4805 : BitVec 32 := 2#32
  let v4743 : BitVec 32 := Scalar.muli v2 c2_i32_4805
  let v4744 : BitVec 32 := Scalar.addi c0_i32_4806 v4743
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4807 : BitVec 32 := 1#32
  let v4745 : BitVec 32 := Scalar.muli v7 c1_i32_4807
  let v4746 : BitVec 32 := Scalar.addi v4744 v4745
  v4746.toNat
def k0_dev86 (d0 : Dev nD) : Nat :=
  let c0_i32_4860 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4859 : BitVec 32 := 2#32
  let v4798 : BitVec 32 := Scalar.muli v6 c2_i32_4859
  let v4799 : BitVec 32 := Scalar.addi c0_i32_4860 v4798
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4861 : BitVec 32 := 1#32
  let v4800 : BitVec 32 := Scalar.muli v5 c1_i32_4861
  let v4801 : BitVec 32 := Scalar.addi v4799 v4800
  v4801.toNat
def k0_dev87 (d0 : Dev nD) : Nat :=
  let c0_i32_4924 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4923 : BitVec 32 := 2#32
  let v4859 : BitVec 32 := Scalar.muli v2 c2_i32_4923
  let v4860 : BitVec 32 := Scalar.addi c0_i32_4924 v4859
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_4925 : BitVec 32 := 1#32
  let v4861 : BitVec 32 := Scalar.muli v7 c1_i32_4925
  let v4862 : BitVec 32 := Scalar.addi v4860 v4861
  v4862.toNat
def k0_dev88 (d0 : Dev nD) : Nat :=
  let c0_i32_4978 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4977 : BitVec 32 := 2#32
  let v4914 : BitVec 32 := Scalar.muli v6 c2_i32_4977
  let v4915 : BitVec 32 := Scalar.addi c0_i32_4978 v4914
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4979 : BitVec 32 := 1#32
  let v4916 : BitVec 32 := Scalar.muli v5 c1_i32_4979
  let v4917 : BitVec 32 := Scalar.addi v4915 v4916
  v4917.toNat
def k0_dev89 (d0 : Dev nD) : Nat :=
  let c0_i32_5042 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5041 : BitVec 32 := 2#32
  let v4975 : BitVec 32 := Scalar.muli v2 c2_i32_5041
  let v4976 : BitVec 32 := Scalar.addi c0_i32_5042 v4975
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5043 : BitVec 32 := 1#32
  let v4977 : BitVec 32 := Scalar.muli v7 c1_i32_5043
  let v4978 : BitVec 32 := Scalar.addi v4976 v4977
  v4978.toNat
def k0_dev90 (d0 : Dev nD) : Nat :=
  let c0_i32_5096 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5095 : BitVec 32 := 2#32
  let v5030 : BitVec 32 := Scalar.muli v6 c2_i32_5095
  let v5031 : BitVec 32 := Scalar.addi c0_i32_5096 v5030
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5097 : BitVec 32 := 1#32
  let v5032 : BitVec 32 := Scalar.muli v5 c1_i32_5097
  let v5033 : BitVec 32 := Scalar.addi v5031 v5032
  v5033.toNat
def k0_dev91 (d0 : Dev nD) : Nat :=
  let c0_i32_5160 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5159 : BitVec 32 := 2#32
  let v5091 : BitVec 32 := Scalar.muli v2 c2_i32_5159
  let v5092 : BitVec 32 := Scalar.addi c0_i32_5160 v5091
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5161 : BitVec 32 := 1#32
  let v5093 : BitVec 32 := Scalar.muli v7 c1_i32_5161
  let v5094 : BitVec 32 := Scalar.addi v5092 v5093
  v5094.toNat
def k0_dev92 (d0 : Dev nD) : Nat :=
  let c0_i32_5214 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5213 : BitVec 32 := 2#32
  let v5146 : BitVec 32 := Scalar.muli v6 c2_i32_5213
  let v5147 : BitVec 32 := Scalar.addi c0_i32_5214 v5146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5215 : BitVec 32 := 1#32
  let v5148 : BitVec 32 := Scalar.muli v5 c1_i32_5215
  let v5149 : BitVec 32 := Scalar.addi v5147 v5148
  v5149.toNat
def k0_dev93 (d0 : Dev nD) : Nat :=
  let c0_i32_5278 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5277 : BitVec 32 := 2#32
  let v5207 : BitVec 32 := Scalar.muli v2 c2_i32_5277
  let v5208 : BitVec 32 := Scalar.addi c0_i32_5278 v5207
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5279 : BitVec 32 := 1#32
  let v5209 : BitVec 32 := Scalar.muli v7 c1_i32_5279
  let v5210 : BitVec 32 := Scalar.addi v5208 v5209
  v5210.toNat
def k0_dev94 (d0 : Dev nD) : Nat :=
  let c0_i32_5332 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5331 : BitVec 32 := 2#32
  let v5262 : BitVec 32 := Scalar.muli v6 c2_i32_5331
  let v5263 : BitVec 32 := Scalar.addi c0_i32_5332 v5262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5333 : BitVec 32 := 1#32
  let v5264 : BitVec 32 := Scalar.muli v5 c1_i32_5333
  let v5265 : BitVec 32 := Scalar.addi v5263 v5264
  v5265.toNat
def k0_dev95 (d0 : Dev nD) : Nat :=
  let c0_i32_5396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5395 : BitVec 32 := 2#32
  let v5323 : BitVec 32 := Scalar.muli v2 c2_i32_5395
  let v5324 : BitVec 32 := Scalar.addi c0_i32_5396 v5323
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5397 : BitVec 32 := 1#32
  let v5325 : BitVec 32 := Scalar.muli v7 c1_i32_5397
  let v5326 : BitVec 32 := Scalar.addi v5324 v5325
  v5326.toNat
def k0_dev96 (d0 : Dev nD) : Nat :=
  let c0_i32_5450 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5449 : BitVec 32 := 2#32
  let v5378 : BitVec 32 := Scalar.muli v6 c2_i32_5449
  let v5379 : BitVec 32 := Scalar.addi c0_i32_5450 v5378
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5451 : BitVec 32 := 1#32
  let v5380 : BitVec 32 := Scalar.muli v5 c1_i32_5451
  let v5381 : BitVec 32 := Scalar.addi v5379 v5380
  v5381.toNat
def k0_dev97 (d0 : Dev nD) : Nat :=
  let c0_i32_5514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5513 : BitVec 32 := 2#32
  let v5439 : BitVec 32 := Scalar.muli v2 c2_i32_5513
  let v5440 : BitVec 32 := Scalar.addi c0_i32_5514 v5439
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5515 : BitVec 32 := 1#32
  let v5441 : BitVec 32 := Scalar.muli v7 c1_i32_5515
  let v5442 : BitVec 32 := Scalar.addi v5440 v5441
  v5442.toNat
def k0_dev98 (d0 : Dev nD) : Nat :=
  let c0_i32_5568 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5567 : BitVec 32 := 2#32
  let v5494 : BitVec 32 := Scalar.muli v6 c2_i32_5567
  let v5495 : BitVec 32 := Scalar.addi c0_i32_5568 v5494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5569 : BitVec 32 := 1#32
  let v5496 : BitVec 32 := Scalar.muli v5 c1_i32_5569
  let v5497 : BitVec 32 := Scalar.addi v5495 v5496
  v5497.toNat
def k0_dev99 (d0 : Dev nD) : Nat :=
  let c0_i32_5632 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5631 : BitVec 32 := 2#32
  let v5555 : BitVec 32 := Scalar.muli v2 c2_i32_5631
  let v5556 : BitVec 32 := Scalar.addi c0_i32_5632 v5555
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5633 : BitVec 32 := 1#32
  let v5557 : BitVec 32 := Scalar.muli v7 c1_i32_5633
  let v5558 : BitVec 32 := Scalar.addi v5556 v5557
  v5558.toNat
def k0_dev100 (d0 : Dev nD) : Nat :=
  let c0_i32_5686 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5685 : BitVec 32 := 2#32
  let v5610 : BitVec 32 := Scalar.muli v6 c2_i32_5685
  let v5611 : BitVec 32 := Scalar.addi c0_i32_5686 v5610
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5687 : BitVec 32 := 1#32
  let v5612 : BitVec 32 := Scalar.muli v5 c1_i32_5687
  let v5613 : BitVec 32 := Scalar.addi v5611 v5612
  v5613.toNat
def k0_dev101 (d0 : Dev nD) : Nat :=
  let c0_i32_5750 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5749 : BitVec 32 := 2#32
  let v5671 : BitVec 32 := Scalar.muli v2 c2_i32_5749
  let v5672 : BitVec 32 := Scalar.addi c0_i32_5750 v5671
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5751 : BitVec 32 := 1#32
  let v5673 : BitVec 32 := Scalar.muli v7 c1_i32_5751
  let v5674 : BitVec 32 := Scalar.addi v5672 v5673
  v5674.toNat
def k0_dev102 (d0 : Dev nD) : Nat :=
  let c0_i32_5804 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5803 : BitVec 32 := 2#32
  let v5726 : BitVec 32 := Scalar.muli v6 c2_i32_5803
  let v5727 : BitVec 32 := Scalar.addi c0_i32_5804 v5726
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5805 : BitVec 32 := 1#32
  let v5728 : BitVec 32 := Scalar.muli v5 c1_i32_5805
  let v5729 : BitVec 32 := Scalar.addi v5727 v5728
  v5729.toNat
def k0_dev103 (d0 : Dev nD) : Nat :=
  let c0_i32_5868 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5867 : BitVec 32 := 2#32
  let v5787 : BitVec 32 := Scalar.muli v2 c2_i32_5867
  let v5788 : BitVec 32 := Scalar.addi c0_i32_5868 v5787
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5869 : BitVec 32 := 1#32
  let v5789 : BitVec 32 := Scalar.muli v7 c1_i32_5869
  let v5790 : BitVec 32 := Scalar.addi v5788 v5789
  v5790.toNat
def k0_dev104 (d0 : Dev nD) : Nat :=
  let c0_i32_5922 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5921 : BitVec 32 := 2#32
  let v5842 : BitVec 32 := Scalar.muli v6 c2_i32_5921
  let v5843 : BitVec 32 := Scalar.addi c0_i32_5922 v5842
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5923 : BitVec 32 := 1#32
  let v5844 : BitVec 32 := Scalar.muli v5 c1_i32_5923
  let v5845 : BitVec 32 := Scalar.addi v5843 v5844
  v5845.toNat
def k0_dev105 (d0 : Dev nD) : Nat :=
  let c0_i32_5986 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5985 : BitVec 32 := 2#32
  let v5903 : BitVec 32 := Scalar.muli v2 c2_i32_5985
  let v5904 : BitVec 32 := Scalar.addi c0_i32_5986 v5903
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_5987 : BitVec 32 := 1#32
  let v5905 : BitVec 32 := Scalar.muli v7 c1_i32_5987
  let v5906 : BitVec 32 := Scalar.addi v5904 v5905
  v5906.toNat
def k0_dev106 (d0 : Dev nD) : Nat :=
  let c0_i32_6040 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6039 : BitVec 32 := 2#32
  let v5958 : BitVec 32 := Scalar.muli v6 c2_i32_6039
  let v5959 : BitVec 32 := Scalar.addi c0_i32_6040 v5958
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6041 : BitVec 32 := 1#32
  let v5960 : BitVec 32 := Scalar.muli v5 c1_i32_6041
  let v5961 : BitVec 32 := Scalar.addi v5959 v5960
  v5961.toNat
def k0_dev107 (d0 : Dev nD) : Nat :=
  let c0_i32_6104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6103 : BitVec 32 := 2#32
  let v6019 : BitVec 32 := Scalar.muli v2 c2_i32_6103
  let v6020 : BitVec 32 := Scalar.addi c0_i32_6104 v6019
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6105 : BitVec 32 := 1#32
  let v6021 : BitVec 32 := Scalar.muli v7 c1_i32_6105
  let v6022 : BitVec 32 := Scalar.addi v6020 v6021
  v6022.toNat
def k0_dev108 (d0 : Dev nD) : Nat :=
  let c0_i32_6158 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6157 : BitVec 32 := 2#32
  let v6074 : BitVec 32 := Scalar.muli v6 c2_i32_6157
  let v6075 : BitVec 32 := Scalar.addi c0_i32_6158 v6074
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6159 : BitVec 32 := 1#32
  let v6076 : BitVec 32 := Scalar.muli v5 c1_i32_6159
  let v6077 : BitVec 32 := Scalar.addi v6075 v6076
  v6077.toNat
def k0_dev109 (d0 : Dev nD) : Nat :=
  let c0_i32_6222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6221 : BitVec 32 := 2#32
  let v6135 : BitVec 32 := Scalar.muli v2 c2_i32_6221
  let v6136 : BitVec 32 := Scalar.addi c0_i32_6222 v6135
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6223 : BitVec 32 := 1#32
  let v6137 : BitVec 32 := Scalar.muli v7 c1_i32_6223
  let v6138 : BitVec 32 := Scalar.addi v6136 v6137
  v6138.toNat
def k0_dev110 (d0 : Dev nD) : Nat :=
  let c0_i32_6276 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6275 : BitVec 32 := 2#32
  let v6190 : BitVec 32 := Scalar.muli v6 c2_i32_6275
  let v6191 : BitVec 32 := Scalar.addi c0_i32_6276 v6190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6277 : BitVec 32 := 1#32
  let v6192 : BitVec 32 := Scalar.muli v5 c1_i32_6277
  let v6193 : BitVec 32 := Scalar.addi v6191 v6192
  v6193.toNat
def k0_dev111 (d0 : Dev nD) : Nat :=
  let c0_i32_6340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6339 : BitVec 32 := 2#32
  let v6251 : BitVec 32 := Scalar.muli v2 c2_i32_6339
  let v6252 : BitVec 32 := Scalar.addi c0_i32_6340 v6251
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6341 : BitVec 32 := 1#32
  let v6253 : BitVec 32 := Scalar.muli v7 c1_i32_6341
  let v6254 : BitVec 32 := Scalar.addi v6252 v6253
  v6254.toNat
def k0_dev112 (d0 : Dev nD) : Nat :=
  let c0_i32_6394 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6393 : BitVec 32 := 2#32
  let v6306 : BitVec 32 := Scalar.muli v6 c2_i32_6393
  let v6307 : BitVec 32 := Scalar.addi c0_i32_6394 v6306
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6395 : BitVec 32 := 1#32
  let v6308 : BitVec 32 := Scalar.muli v5 c1_i32_6395
  let v6309 : BitVec 32 := Scalar.addi v6307 v6308
  v6309.toNat
def k0_dev113 (d0 : Dev nD) : Nat :=
  let c0_i32_6458 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6457 : BitVec 32 := 2#32
  let v6367 : BitVec 32 := Scalar.muli v2 c2_i32_6457
  let v6368 : BitVec 32 := Scalar.addi c0_i32_6458 v6367
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6459 : BitVec 32 := 1#32
  let v6369 : BitVec 32 := Scalar.muli v7 c1_i32_6459
  let v6370 : BitVec 32 := Scalar.addi v6368 v6369
  v6370.toNat
def k0_dev114 (d0 : Dev nD) : Nat :=
  let c0_i32_6512 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6511 : BitVec 32 := 2#32
  let v6422 : BitVec 32 := Scalar.muli v6 c2_i32_6511
  let v6423 : BitVec 32 := Scalar.addi c0_i32_6512 v6422
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6513 : BitVec 32 := 1#32
  let v6424 : BitVec 32 := Scalar.muli v5 c1_i32_6513
  let v6425 : BitVec 32 := Scalar.addi v6423 v6424
  v6425.toNat
def k0_dev115 (d0 : Dev nD) : Nat :=
  let c0_i32_6576 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6575 : BitVec 32 := 2#32
  let v6483 : BitVec 32 := Scalar.muli v2 c2_i32_6575
  let v6484 : BitVec 32 := Scalar.addi c0_i32_6576 v6483
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6577 : BitVec 32 := 1#32
  let v6485 : BitVec 32 := Scalar.muli v7 c1_i32_6577
  let v6486 : BitVec 32 := Scalar.addi v6484 v6485
  v6486.toNat
def k0_dev116 (d0 : Dev nD) : Nat :=
  let c0_i32_6630 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6629 : BitVec 32 := 2#32
  let v6538 : BitVec 32 := Scalar.muli v6 c2_i32_6629
  let v6539 : BitVec 32 := Scalar.addi c0_i32_6630 v6538
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6631 : BitVec 32 := 1#32
  let v6540 : BitVec 32 := Scalar.muli v5 c1_i32_6631
  let v6541 : BitVec 32 := Scalar.addi v6539 v6540
  v6541.toNat
def k0_dev117 (d0 : Dev nD) : Nat :=
  let c0_i32_6694 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6693 : BitVec 32 := 2#32
  let v6599 : BitVec 32 := Scalar.muli v2 c2_i32_6693
  let v6600 : BitVec 32 := Scalar.addi c0_i32_6694 v6599
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6695 : BitVec 32 := 1#32
  let v6601 : BitVec 32 := Scalar.muli v7 c1_i32_6695
  let v6602 : BitVec 32 := Scalar.addi v6600 v6601
  v6602.toNat
def k0_dev118 (d0 : Dev nD) : Nat :=
  let c0_i32_6748 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6747 : BitVec 32 := 2#32
  let v6654 : BitVec 32 := Scalar.muli v6 c2_i32_6747
  let v6655 : BitVec 32 := Scalar.addi c0_i32_6748 v6654
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6749 : BitVec 32 := 1#32
  let v6656 : BitVec 32 := Scalar.muli v5 c1_i32_6749
  let v6657 : BitVec 32 := Scalar.addi v6655 v6656
  v6657.toNat
def k0_dev119 (d0 : Dev nD) : Nat :=
  let c0_i32_6812 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6811 : BitVec 32 := 2#32
  let v6715 : BitVec 32 := Scalar.muli v2 c2_i32_6811
  let v6716 : BitVec 32 := Scalar.addi c0_i32_6812 v6715
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6813 : BitVec 32 := 1#32
  let v6717 : BitVec 32 := Scalar.muli v7 c1_i32_6813
  let v6718 : BitVec 32 := Scalar.addi v6716 v6717
  v6718.toNat
def k0_dev120 (d0 : Dev nD) : Nat :=
  let c0_i32_6866 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6865 : BitVec 32 := 2#32
  let v6770 : BitVec 32 := Scalar.muli v6 c2_i32_6865
  let v6771 : BitVec 32 := Scalar.addi c0_i32_6866 v6770
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6867 : BitVec 32 := 1#32
  let v6772 : BitVec 32 := Scalar.muli v5 c1_i32_6867
  let v6773 : BitVec 32 := Scalar.addi v6771 v6772
  v6773.toNat
def k0_dev121 (d0 : Dev nD) : Nat :=
  let c0_i32_6930 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_6929 : BitVec 32 := 2#32
  let v6831 : BitVec 32 := Scalar.muli v2 c2_i32_6929
  let v6832 : BitVec 32 := Scalar.addi c0_i32_6930 v6831
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6931 : BitVec 32 := 1#32
  let v6833 : BitVec 32 := Scalar.muli v7 c1_i32_6931
  let v6834 : BitVec 32 := Scalar.addi v6832 v6833
  v6834.toNat
def k0_dev122 (d0 : Dev nD) : Nat :=
  let c0_i32_6984 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_6983 : BitVec 32 := 2#32
  let v6886 : BitVec 32 := Scalar.muli v6 c2_i32_6983
  let v6887 : BitVec 32 := Scalar.addi c0_i32_6984 v6886
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6985 : BitVec 32 := 1#32
  let v6888 : BitVec 32 := Scalar.muli v5 c1_i32_6985
  let v6889 : BitVec 32 := Scalar.addi v6887 v6888
  v6889.toNat
def k0_dev123 (d0 : Dev nD) : Nat :=
  let c0_i32_7048 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7047 : BitVec 32 := 2#32
  let v6947 : BitVec 32 := Scalar.muli v2 c2_i32_7047
  let v6948 : BitVec 32 := Scalar.addi c0_i32_7048 v6947
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_7049 : BitVec 32 := 1#32
  let v6949 : BitVec 32 := Scalar.muli v7 c1_i32_7049
  let v6950 : BitVec 32 := Scalar.addi v6948 v6949
  v6950.toNat
def k0_dev124 (d0 : Dev nD) : Nat :=
  let c0_i32_7102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7101 : BitVec 32 := 2#32
  let v7002 : BitVec 32 := Scalar.muli v6 c2_i32_7101
  let v7003 : BitVec 32 := Scalar.addi c0_i32_7102 v7002
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7103 : BitVec 32 := 1#32
  let v7004 : BitVec 32 := Scalar.muli v5 c1_i32_7103
  let v7005 : BitVec 32 := Scalar.addi v7003 v7004
  v7005.toNat
def k0_dev125 (d0 : Dev nD) : Nat :=
  let c0_i32_7166 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7165 : BitVec 32 := 2#32
  let v7063 : BitVec 32 := Scalar.muli v2 c2_i32_7165
  let v7064 : BitVec 32 := Scalar.addi c0_i32_7166 v7063
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_7167 : BitVec 32 := 1#32
  let v7065 : BitVec 32 := Scalar.muli v7 c1_i32_7167
  let v7066 : BitVec 32 := Scalar.addi v7064 v7065
  v7066.toNat
def k0_dev126 (d0 : Dev nD) : Nat :=
  let c0_i32_7220 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7219 : BitVec 32 := 2#32
  let v7118 : BitVec 32 := Scalar.muli v6 c2_i32_7219
  let v7119 : BitVec 32 := Scalar.addi c0_i32_7220 v7118
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7221 : BitVec 32 := 1#32
  let v7120 : BitVec 32 := Scalar.muli v5 c1_i32_7221
  let v7121 : BitVec 32 := Scalar.addi v7119 v7120
  v7121.toNat
def k0_dev127 (d0 : Dev nD) : Nat :=
  let c0_i32_7284 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7283 : BitVec 32 := 2#32
  let v7179 : BitVec 32 := Scalar.muli v2 c2_i32_7283
  let v7180 : BitVec 32 := Scalar.addi c0_i32_7284 v7179
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_7285 : BitVec 32 := 1#32
  let v7181 : BitVec 32 := Scalar.muli v7 c1_i32_7285
  let v7182 : BitVec 32 := Scalar.addi v7180 v7181
  v7182.toNat
def k0_dev128 (d0 : Dev nD) : Nat :=
  let c0_i32_7333 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_7332 : BitVec 32 := 2#32
  let v7227 : BitVec 32 := Scalar.muli v6 c2_i32_7332
  let v7228 : BitVec 32 := Scalar.addi c0_i32_7333 v7227
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_7334 : BitVec 32 := 1#32
  let v7229 : BitVec 32 := Scalar.muli v5 c1_i32_7334
  let v7230 : BitVec 32 := Scalar.addi v7228 v7229
  v7230.toNat
def k0_dev129 (d0 : Dev nD) : Nat :=
  let c0_i32_7397 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7396 : BitVec 32 := 2#32
  let v7288 : BitVec 32 := Scalar.muli v2 c2_i32_7396
  let v7289 : BitVec 32 := Scalar.addi c0_i32_7397 v7288
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_7398 : BitVec 32 := 1#32
  let v7290 : BitVec 32 := Scalar.muli v7 c1_i32_7398
  let v7291 : BitVec 32 := Scalar.addi v7289 v7290
  v7291.toNat
def k0_dev130 (d0 : Dev nD) : Nat :=
  let c0_i32_7487 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_7486 : BitVec 32 := 2#32
  let v7371 : BitVec 32 := Scalar.muli v2 c2_i32_7486
  let v7372 : BitVec 32 := Scalar.addi c0_i32_7487 v7371
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_7488 : BitVec 32 := 1#32
  let v7373 : BitVec 32 := Scalar.muli v7 c1_i32_7488
  let v7374 : BitVec 32 := Scalar.addi v7372 v7373
  v7374.toNat
-- ==== ReferenceIdeal.lean ====
abbrev S2x16384x2048 : Shape := ⟨3, ![2, 16384, 2048]⟩
abbrev S_ : Shape := ⟨0, ![]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S_, .f32⟩
  | .hbm, ⟨2, _⟩ => ⟨S16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Trace.lean ====
/-
# The kernel's body as a list of symbolic operations

The printed body is one straight line of operations. Here it is written again as a list: each operation names the
step of the algorithm it performs (start or wait of one of the eight families of copies, or the addition) and the
chunk it performs it for, and `body_eq` says that the printed body is the program of that list.
-/
module

public import proofs.«01_k».proof.Proof.Gen.KernelIdeal
public import proofs.«01_k».proof.Proof.Gen.KernelIdeal.Points
public import Idealize.ShloMosaic.Lib.Pipeline.Regions

@[expose] public section

noncomputable section

namespace Cert.KProof

open Cert.KernelIdeal Cert.KernelIdeal.Gen
open Idealize.ShloMosaic
open Idealize.ShloMosaic.TcCoe
open Idealize.SL Idealize.SL.Sem

variable {F : FTy → Type} [FloatOps F]

/-! ## Buffers, slots and semaphores -/

/-- The staging buffer of what goes to the x-peer. -/
abbrev sendM : Memref sig .tc .vmem S4x128x1024 .f32 := Memref.whole cc0_scratch0
/-- The landing buffer of the x-peer's chunks. -/
abbrev rxM : Memref sig .tc .vmem S4x128x1024 .f32 := Memref.whole cc0_scratch1
/-- The staging buffer of the device's own chunks. -/
abbrev locM : Memref sig .tc .vmem S4x128x1024 .f32 := Memref.whole cc0_scratch2
/-- The buffer of the sums. -/
abbrev redM : Memref sig .tc .vmem S4x128x1024 .f32 := Memref.whole cc0_scratch3
/-- The landing buffer of the y-peer's sums. -/
abbrev ryM : Memref sig .tc .vmem S4x128x1024 .f32 := Memref.whole cc0_scratch4
/-- The device's block of the argument. -/
abbrev xM : Memref sig .tc .hbm S1x16384x2048 .f32 := Memref.whole main_arg0
/-- The device's block of the result. -/
abbrev oM : Memref sig .tc .hbm S16384x1024 .f32 := Memref.whole main_v1

/-- A slot of a four-slot buffer lies inside it. -/
theorem inb_slot (i : Fin 4) : ∀ a, (![i.val, 0, 0] : Fin 3 → Nat) a + S1x128x1024.size a ≤ S4x128x1024.size a := by
  have h := i.isLt
  intro a
  match a with
  | ⟨0, _⟩ => show i.val + 1 ≤ 4; omega
  | ⟨1, _⟩ => show 0 + 128 ≤ 128; omega
  | ⟨2, _⟩ => show 0 + 1024 ≤ 1024; omega

/-- The rectangle of slot `i` of a four-slot buffer. -/
abbrev slotRect (i : Fin 4) : Rect S4x128x1024 := Rect.unit (s := S4x128x1024) ![i.val, 0, 0] S1x128x1024.size (inb_slot i)

/-- The number of the slot that chunk `n` uses in a four-slot buffer. -/
abbrev slotOf (n : ℕ) : Fin 4 := ⟨n % 4, Nat.mod_lt _ (by decide)⟩

/-- The rectangle of chunk `n`'s slot in a four-slot buffer. -/
abbrev slotR (n : ℕ) : Rect S4x128x1024 := slotRect (slotOf n)

/-- Slot `i` of a four-slot buffer, as the copies address it. -/
abbrev slotM (b : Memref sig .tc .vmem S4x128x1024 .f32) (i : Fin 4) : Memref sig .tc .vmem S128x1024 .f32 :=
  (b.slice (slotRect i) (fun _ => rfl)).squeeze S128x1024 squeezes_S1x128x1024_S128x1024

/-- Chunk `n`'s slot of a four-slot buffer, as the copies address it. -/
abbrev slotV (b : Memref sig .tc .vmem S4x128x1024 .f32) (n : ℕ) : Memref sig .tc .vmem S128x1024 .f32 := slotM b (slotOf n)

/-- Chunk number `n`, as a bounded number. -/
abbrev ch (n : ℕ) : Fin 64 := ⟨n % 64, Nat.mod_lt _ (by decide)⟩

/-- The word by which the body names chunk `k`'s first row inside a half. -/
abbrev rowW (k : Fin 64) : BitVec 32 := BitVec.ofNat 32 (128 * k.val)

/-- The rows of chunk `k` of the device's block, in the x-peer's columns. -/
abbrev peerV (d : Dev nD) (k : Fin 64) : Memref sig .tc .hbm S128x1024 .f32 :=
  (xM.slice (Rect.unit (s := S1x16384x2048) (k0_off1 d (rowW k)) S1x128x1024.size (k0_off1_inb d k)) (fun _ => rfl)).squeeze S128x1024 squeezes_S1x128x1024_S128x1024
/-- The rows of chunk `k` of the device's block, in its own columns. -/
abbrev ownV (d : Dev nD) (k : Fin 64) : Memref sig .tc .hbm S128x1024 .f32 :=
  (xM.slice (Rect.unit (s := S1x16384x2048) (k0_off2 d (rowW k)) S1x128x1024.size (k0_off2_inb d k)) (fun _ => rfl)).squeeze S128x1024 squeezes_S1x128x1024_S128x1024
/-- The rows of chunk `k` of the result, in the device's own half. -/
abbrev out1V (d : Dev nD) (k : Fin 64) : Memref sig .tc .hbm S128x1024 .f32 :=
  oM.slice (Rect.unit (s := S16384x1024) (k0_off3 d (rowW k)) S128x1024.size (k0_off3_inb d k)) (fun _ => rfl)
/-- The rows of chunk `k` of the result, in the y-peer's half. -/
abbrev out2V (d : Dev nD) (k : Fin 64) : Memref sig .tc .hbm S128x1024 .f32 :=
  oM.slice (Rect.unit (s := S16384x1024) (k0_off4 d (rowW k)) S128x1024.size (k0_off4_inb d k)) (fun _ => rfl)

/-- The barrier semaphore. -/
abbrev barS : Sem sig := (SemArray.scalar (sig.barrier 0 rfl) : Sems sig S_).sem

/-- The eight families of copies: from the device to its x-peer as the sender (`xs`) and as the receiver (`xr`) sees it,
    the same to the y-peer (`ys`, `yr`), the device's own rows coming in (`lo`), the x-peer's columns coming in (`sr`), and
    the two halves of the result going out (`o1`, `o2`). -/
inductive Fam where
  | xs | xr | ys | yr | lo | sr | o1 | o2
deriving DecidableEq

/-- The families are finitely many. -/
instance : Fintype Fam := ⟨{.xs, .xr, .ys, .yr, .lo, .sr, .o1, .o2}, fun b => by cases b <;> decide⟩

/-- How many semaphores a family has: its copies take them in turn. -/
def win : Fam → ℕ
  | .xs => 4 | .xr => 4 | .ys => 4 | .yr => 4 | .lo => 4 | .sr => 4 | .o1 => 2 | .o2 => 2

/-- The number of a family's first semaphore. -/
def base : Fam → ℕ
  | .xs => 0 | .xr => 4 | .ys => 8 | .yr => 12 | .lo => 16 | .sr => 20 | .o1 => 24 | .o2 => 26

/-- A family has semaphores. -/
theorem win_pos (b : Fam) : 0 < win b := by cases b <;> decide

/-- A family's semaphores are among the kernel's. -/
theorem base_win (b : Fam) : base b + win b ≤ 28 := by cases b <;> decide

/-- The semaphore of a family's copy for chunk `n`. -/
abbrev semOf (b : Fam) (n : ℕ) : DmaSem sig :=
  ⟨base b + n % win b, by have := Nat.mod_lt n (win_pos b); have := base_win b; show _ < 28; omega⟩

/-! ## The operations -/

/-- The operations of the body: `S` starts a copy, `W` waits for it. -/
inductive Op where
  | sigX | sigY | barW
  | srcS (k : ℕ) | srcW (k : ℕ) | inS (k : ℕ) | inW (k : ℕ)
  | xS (k : ℕ) | xsW (k : ℕ) | xrW (k : ℕ)
  | add (k : ℕ)
  | o1S (k : ℕ) | o1W (k : ℕ)
  | yS (k : ℕ) | ysW (k : ℕ) | yrW (k : ℕ)
  | o2S (k : ℕ) | o2W (k : ℕ)

/-- The programs of the TensorCore. -/
abbrev TP (F : FTy → Type) : Type 1 := Prog (TpuEff nD τ sig (Elt F) Λ₀ .tc) PUnit

/-- The evidence that a slot's copies move whole words. -/
theorem slot_words (b : Memref sig .tc .vmem S4x128x1024 .f32) (k : ℕ) : (slotV b k).view.WordExact :=
  (View.wordExact_bits rfl).reshape _ _

/-- The sum of two slots' contents, as the body computes it. -/
def sumPay (a b : Vec F S1x128x1024 .f32) : FVec F S1x128x1024 .f32 :=
  shapeCast S1x128x1024 (addf (shapeCast S128x1024 a shapeCasts_S1x128x1024_S128x1024) (shapeCast S128x1024 b shapeCasts_S1x128x1024_S128x1024))
    shapeCasts_S128x1024_S1x128x1024

/-- The program of one operation on device `d`. -/
def opP (d : Dev nD) : Op → TP F
  | .sigX => semSignalWord (⟨k0_dev1 d, k0_dev1_lt d⟩ : Dev nD) barS 1#32
  | .sigY => semSignalWord (⟨k0_dev2 d, k0_dev2_lt d⟩ : Dev nD) barS 1#32
  | .barW => semWaitWord barS 2#32
  | .srcS k => Prog.lift (.enqueueDma (peerV d (ch k)) (.here (slotV sendM k)) (.dma (semOf .sr k)) ((View.wordExact_bits rfl).reshape _ _) ((View.wordExact_bits rfl).reshape _ _) ⟨Or.inl rfl, trivial⟩)
  | .srcW k => Prog.lift (.waitDma2 (semOf .sr k) (peerV d (ch k)) (slotV sendM k) ((View.wordExact_bits rfl).reshape _ _) ((View.wordExact_bits rfl).reshape _ _))
  | .inS k => Prog.lift (.enqueueDma (ownV d (ch k)) (.here (slotV locM k)) (.dma (semOf .lo k)) ((View.wordExact_bits rfl).reshape _ _) ((View.wordExact_bits rfl).reshape _ _) ⟨Or.inl rfl, trivial⟩)
  | .inW k => Prog.lift (.waitDma2 (semOf .lo k) (ownV d (ch k)) (slotV locM k) ((View.wordExact_bits rfl).reshape _ _) ((View.wordExact_bits rfl).reshape _ _))
  | .xS k => Prog.lift (.enqueueDma (slotV sendM k) (.remote (Dev.tc (⟨k0_dev3 d, k0_dev3_lt d⟩ : Dev nD)) (slotV rxM k) (.dma (semOf .xs k))) (.dma (semOf .xr k)) ((View.wordExact_bits rfl).reshape _ _) ((View.wordExact_bits rfl).reshape _ _) ⟨⟨rfl, Or.inl rfl⟩, trivial⟩)
  | .xsW k => Prog.lift (.waitDma2 (semOf .xs k) (slotV rxM k) (slotV sendM k) ((View.wordExact_bits rfl).reshape _ _) ((View.wordExact_bits rfl).reshape _ _))
  | .xrW k => Prog.lift (.waitDma2 (semOf .xr k) (slotV sendM k) (slotV rxM k) ((View.wordExact_bits rfl).reshape _ _) ((View.wordExact_bits rfl).reshape _ _))
  | .add k => do
      let a : Vec F S1x128x1024 .f32 ← Prog.lift (.load locM (slotR k).toLoadRect (View.loadsAt_vmem h_S1x128x1024))
      let b : Vec F S1x128x1024 .f32 ← Prog.lift (.load rxM (slotR k).toLoadRect (View.loadsAt_vmem h_S1x128x1024))
      let _ : Vec F S1x128x1024 .f32 ← Prog.lift (.load redM (slotR k).toLoadRect (View.loadsAt_vmem h_S1x128x1024))
      Prog.lift (.store redM (slotR k) (sumPay a b) Finset.univ (View.stores_vmem_bits_univ h_S1x128x1024 rfl) (.inl rfl))
  | .o1S k => Prog.lift (.enqueueDma (slotV redM k) (.here (out1V d (ch k))) (.dma (semOf .o1 k)) ((View.wordExact_bits rfl).reshape _ _) (View.wordExact_bits rfl) ⟨Or.inl rfl, trivial⟩)
  | .o1W k => Prog.lift (.waitDma2 (semOf .o1 k) (slotV redM k) (out1V d (ch k)) ((View.wordExact_bits rfl).reshape _ _) (View.wordExact_bits rfl))
  | .yS k => Prog.lift (.enqueueDma (slotV redM k) (.remote (Dev.tc (⟨k0_dev5 d, k0_dev5_lt d⟩ : Dev nD)) (slotV ryM k) (.dma (semOf .ys k))) (.dma (semOf .yr k)) ((View.wordExact_bits rfl).reshape _ _) ((View.wordExact_bits rfl).reshape _ _) ⟨⟨rfl, Or.inl rfl⟩, trivial⟩)
  | .ysW k => Prog.lift (.waitDma2 (semOf .ys k) (slotV ryM k) (slotV redM k) ((View.wordExact_bits rfl).reshape _ _) ((View.wordExact_bits rfl).reshape _ _))
  | .yrW k => Prog.lift (.waitDma2 (semOf .yr k) (slotV redM k) (slotV ryM k) ((View.wordExact_bits rfl).reshape _ _) ((View.wordExact_bits rfl).reshape _ _))
  | .o2S k => Prog.lift (.enqueueDma (slotV ryM k) (.here (out2V d (ch k))) (.dma (semOf .o2 k)) ((View.wordExact_bits rfl).reshape _ _) (View.wordExact_bits rfl) ⟨Or.inl rfl, trivial⟩)
  | .o2W k => Prog.lift (.waitDma2 (semOf .o2 k) (slotV ryM k) (out2V d (ch k)) ((View.wordExact_bits rfl).reshape _ _) (View.wordExact_bits rfl))

/-- The program of a list of operations. -/
def runP (d : Dev nD) : List Op → TP F
  | [] => pure ⟨⟩
  | o :: l => opP d o >>= fun _ => runP d l

/-! ## The list -/

/-- The operations of iteration `c`. -/
def iter (c : ℕ) : List Op :=
  (if c + 2 < 64 then [.srcS (c + 2)] else []) ++
  ((if c + 1 < 64 then [.inS (c + 1), .srcW (c + 1), .xS (c + 1)] else []) ++
  ([.inW c, .xsW c, .xrW c] ++
  ((if 1 ≤ c then [.o1W (c - 1)] else []) ++
  ((if 2 ≤ c then [.o2W (c - 2)] else []) ++
  ([.add c, .o1S c, .yS c] ++
  (if 1 ≤ c then [.ysW (c - 1), .yrW (c - 1), .o2S (c - 1)] else []))))))

/-- Iterations `c`, `c + 1`, … — `n` of them — and then `l`. -/
def iters : ℕ → ℕ → List Op → List Op
  | 0, _, l => l
  | n + 1, c, l => iter c ++ iters n (c + 1) l

/-- The whole body's operations. -/
def trace : List Op :=
  [.sigX, .sigY, .barW, .srcS 0, .srcS 1, .inS 0, .srcW 0, .xS 0] ++
  iters 64 0 [.ysW 63, .yrW 63, .o2S 63, .o1W 63, .o2W 62, .o2W 63]

set_option maxRecDepth 65536 in
/-- The printed body, at the buffers the launch gives it, is the program of the list. -/
theorem body_eq (t : Fin cfg0.N) : bodyAt0 (F := F) t = .op .deviceId fun d => runP d trace := by
  chain_rfl

end Cert.KProof
-- ==== Proof.Proto.lean ====
/-
# The protocol of the copies

The devices, the cells (one per semaphore), what each copy hands over, and what every device owes the others. A family's
semaphores serve its 64 copies in turn, so the copy of chunk `n` is round `n / win` of its semaphore. What the pay of a
round hands to the semaphore's owner:

* a copy inside the device: the piece written, at the contents written;
* the sender's side of a copy to a peer: the piece read, free again;
* the receiver's side: the piece written at its contents, and the right to write the PEER's slot of the chunk two further
  on (`hand`): the peer has finished with it when it starts this copy;
* the two units of the barrier: the right to write the peer's first two slots.
-/
module

public import proofs.«01_k».proof.Proof.Trace
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds of the protocol's cells; a round's payers are told apart by a `Bool`. -/
abbrev UB : Type := URounds (GSem nD τ sig) Bool
/-- The launch's own part and the protocol's. -/
abbrev UU : Type := UR sig nD τ × UB

/-- Credit and debt of a cell are kept apart by the number of the chunk. -/
local notation "𝕄" => MT nD τ sig ℕ (Elt F) ℕ UU ℕ

/-- Where the launch's own part sits. -/
abbrev EP : Emb (UR sig nD τ) (MT nD τ sig ℕ (Elt F) ℕ UU ℕ) := embL
/-- Where the protocol's part sits. -/
abbrev ER : Emb UB (MT nD τ sig ℕ (Elt F) ℕ UU ℕ) := embR

variable (m : (ℓ : Loc nD τ sig) → Buf (Elt F) ℓ)

/-! ## The mesh -/

set_option backward.proofsInPublic true in
/-- The peer along x: the same y, the other column half. -/
def xp (d : Dev nD) : Dev nD := ⟨(d.val + 2) % 4, Nat.mod_lt _ (by decide)⟩
set_option backward.proofsInPublic true in
/-- The peer along y: the same x, the other row half. -/
def yp (d : Dev nD) : Dev nD := ⟨if d.val % 2 = 0 then d.val + 1 else d.val - 1, by have h : d.val < 4 := d.isLt; show _ < 4; split <;> omega⟩

/-- Peers along x are each other's. -/
theorem xp_xp (d : Dev nD) : xp (xp d) = d := by revert d; decide
/-- Peers along y are each other's. -/
theorem yp_yp (d : Dev nD) : yp (yp d) = d := by revert d; decide
/-- The first signal goes to the x-peer. -/
theorem dev1_eq (d : Dev nD) : (⟨k0_dev1 d, k0_dev1_lt d⟩ : Dev nD) = xp d := by revert d; decide
/-- The second signal goes to the y-peer. -/
theorem dev2_eq (d : Dev nD) : (⟨k0_dev2 d, k0_dev2_lt d⟩ : Dev nD) = yp d := by revert d; decide
/-- The chunks of the argument go to the x-peer. -/
theorem dev3_eq (d : Dev nD) : (⟨k0_dev3 d, k0_dev3_lt d⟩ : Dev nD) = xp d := by revert d; decide
/-- The sums go to the y-peer. -/
theorem dev5_eq (d : Dev nD) : (⟨k0_dev5 d, k0_dev5_lt d⟩ : Dev nD) = yp d := by revert d; decide

/-! ## Cells and rounds -/

/-- The cell of a semaphore of device `d`'s TensorCore. -/
abbrev kcell (c : Dev nD × SemLoc sig) : GSem nD τ sig := ((c.1 : Thread nD τ), c.2)
/-- The barrier's cell. -/
abbrev barCell (d : Dev nD) : GSem nD τ sig := ((d : Thread nD τ), .reg barS)
/-- The cell of a family's copy of chunk `n`. -/
abbrev cell (d : Dev nD) (b : Fam) (n : ℕ) : GSem nD τ sig := ((d : Thread nD τ), .dma (semOf b n))
/-- The round of that cell. -/
abbrev rnd (b : Fam) (n : ℕ) : ℕ := n / win b

/-- The family of the semaphore numbered `q`. -/
def famOf (q : ℕ) : Fam :=
  if q < 4 then .xs else if q < 8 then .xr else if q < 12 then .ys else if q < 16 then .yr
  else if q < 20 then .lo else if q < 24 then .sr else if q < 26 then .o1 else .o2

/-- The chunk whose copy is round `r` of the semaphore numbered `q`. -/
def chunkN (q r : ℕ) : ℕ := win (famOf q) * r + (q - base (famOf q))

/-- A family's semaphores are its own. -/
theorem famOf_base : ∀ (b : Fam) (i : Fin 4), i.val < win b → famOf (base b + i.val) = b := by decide

/-- The family of a family's semaphore is it. -/
theorem famOf_semOf (b : Fam) (n : ℕ) : famOf (semOf b n).val = b := by
  have h := Nat.mod_lt n (win_pos b)
  have h4 : win b ≤ 4 := by cases b <;> decide
  exact famOf_base b ⟨n % win b, by omega⟩ h

/-- The chunk of a chunk's round is it. -/
theorem chunkN_semOf (b : Fam) (n : ℕ) : chunkN (semOf b n).val (rnd b n) = n := by
  unfold chunkN
  rw [famOf_semOf]
  show win b * (n / win b) + (base b + n % win b - base b) = n
  rw [Nat.add_sub_cancel_left, Nat.div_add_mod]

/-- The next copy on a semaphore is the next round. -/
theorem rnd_succ (b : Fam) (n : ℕ) : rnd b (n + win b) = rnd b n + 1 := Nat.add_div_right _ (win_pos b)

/-- The next copy on a semaphore is on the same semaphore. -/
theorem semOf_succ (b : Fam) (n : ℕ) : semOf b (n + win b) = semOf b n :=
  Fin.ext (by show base b + (n + win b) % win b = base b + n % win b; rw [Nat.add_mod_right])

/-- The units of one copy. -/
abbrev N : ℕ := (slotV sendM 0).view.dmaCredit
/-- A copy has units. -/
theorem N_pos : 0 < N := View.dmaCredit_pos _ (by decide)

/-! ## Values -/

/-- The argument's block on device `d`. -/
abbrev X (d : Dev nD) : Buf (Elt F) ((d : Thread nD τ).loc main_arg0) := m ((d : Thread nD τ).loc main_arg0)
/-- Chunk `n` of the device's block in its x-peer's columns. -/
def Sx (d : Dev nD) (n : ℕ) : Vec F S128x1024 .f32 := (peerV d (ch n)).view.read (Elt F) (X m d)
/-- Chunk `n` of the device's block in its own columns. -/
def Ow (d : Dev nD) (n : ℕ) : Vec F S128x1024 .f32 := (ownV d (ch n)).view.read (Elt F) (X m d)
/-- Chunk `n` of the sum. -/
def Red (d : Dev nD) (n : ℕ) : Vec F S128x1024 .f32 := addf (φ := .f32) (Ow m d n) (Sx m (xp d) n)

/-! ## Pieces -/

/-- The piece of a view on device `d`, at share `q` and some contents. -/
def vAny {sp : Space} (V : Memref sig .tc sp S128x1024 .f32) (d : Dev nD) (q : PosShare TreeShare) : sProp 𝕄 :=
  iprop(∃ f : Buf (Elt F) (V.view.loc (d : Thread nD τ)), V.view.loc (d : Thread nD τ) ↦[V.view.set]{q} f)

/-- The piece of a view on device `d`, at share `q` and the contents `v`. -/
def vHas {sp : Space} (V : Memref sig .tc sp S128x1024 .f32) (d : Dev nD) (q : PosShare TreeShare) (v : Vec F S128x1024 .f32) : sProp 𝕄 :=
  iprop(∃ f : Buf (Elt F) (V.view.loc (d : Thread nD τ)), ⌜V.view.read (Elt F) f = v⌝ ∗ V.view.loc (d : Thread nD τ) ↦[V.view.set]{q} f)

omit [FloatOps F] in
instance vAny_storable {sp : Space} (V : Memref sig .tc sp S128x1024 .f32) (d : Dev nD) (q : PosShare TreeShare) :
    BI.Storable (upEmb : UEmb _ 𝕄) (vAny (F := F) V d q) := by unfold vAny; infer_instance
omit [FloatOps F] in
instance vHas_storable {sp : Space} (V : Memref sig .tc sp S128x1024 .f32) (d : Dev nD) (q : PosShare TreeShare) (v : Vec F S128x1024 .f32) :
    BI.Storable (upEmb : UEmb _ 𝕄) (vHas (F := F) V d q v) := by unfold vHas; infer_instance

/-- The left half of a piece's share: it goes to the copy out to the result. -/
abbrev qL : PosShare TreeShare := (fullShare : PosShare TreeShare).left
/-- The right half: it goes to the copy to the y-peer. -/
abbrev qR : PosShare TreeShare := (fullShare : PosShare TreeShare).right

/-- The token of a family's copy into device `d`'s cell: the right to pay it. -/
def tokP (d : Dev nD) (b : Fam) (n : ℕ) : sProp 𝕄 := dutyTok ER (cell d b n) (rnd b n) false
/-- The owner's position at a copy's round. -/
def posP (d : Dev nD) (b : Fam) (n : ℕ) : sProp 𝕄 := atPos ER (cell d b n) (rnd b n) ∅ 0
/-- That a copy's round is reached. -/
def reaP (d : Dev nD) (b : Fam) (n : ℕ) : sProp 𝕄 := reached ER (cell d b n) (rnd b n)
/-- The credit of a copy: the right to wait for it. -/
def credP (d : Dev nD) (b : Fam) (n : ℕ) : sProp 𝕄 := cred (tallyAt (cell d b n) n N)
omit [FloatOps F] in
instance reaP_storable (d : Dev nD) (b : Fam) (n : ℕ) : BI.Storable (upEmb : UEmb _ 𝕄) (reaP (F := F) d b n) := by unfold reaP; infer_instance
omit [FloatOps F] in
instance reaP_persistent (d : Dev nD) (b : Fam) (n : ℕ) : BI.Persistent (reaP (F := F) d b n) := by unfold reaP; infer_instance

/-- The right to write device `e`'s landing slot of chunk `n` from its x-peer (nothing past the last chunk). -/
def handX (e : Dev nD) (n : ℕ) : sProp 𝕄 := if n < 64 then iprop(vAny (slotV rxM n) e fullShare ∗ reaP e .xr n) else iprop(emp)
/-- The right to write device `e`'s landing slot of chunk `n` from its y-peer (nothing past the last chunk). -/
def handY (e : Dev nD) (n : ℕ) : sProp 𝕄 := if n < 64 then iprop(vAny (slotV ryM n) e fullShare ∗ reaP e .yr n) else iprop(emp)

/-- What the payment of family `b`'s copy of chunk `n` hands to the owner of its semaphore, device `d`. -/
def pay (d : Dev nD) (n : ℕ) : Fam → sProp 𝕄
  | .sr => vHas (slotV sendM n) d fullShare (Sx m d n)
  | .lo => vHas (slotV locM n) d fullShare (Ow m d n)
  | .xs => vAny (slotV sendM n) d fullShare
  | .xr => iprop(vHas (slotV rxM n) d fullShare (Sx m (xp d) n) ∗ handX (xp d) (n + 2))
  | .ys => vAny (slotV redM n) d qR
  | .yr => iprop(vHas (slotV ryM n) d fullShare (Red m (yp d) n) ∗ handY (yp d) (n + 2))
  | .o1 => iprop(vHas (out1V d (ch n)) d fullShare (Red m d n) ∗ vAny (slotV redM n) d qL)
  | .o2 => iprop(vHas (out2V d (ch n)) d fullShare (Red m (yp d) n) ∗ vAny (slotV ryM n) d fullShare)

/-- What a barrier unit hands over: the payer's first two slots. -/
def barPay (d : Dev nD) : Bool → sProp 𝕄
  | false => iprop(handX (xp d) 0 ∗ handX (xp d) 1)
  | true => iprop(handY (yp d) 0 ∗ handY (yp d) 1)

omit [FloatOps F] in
instance handX_storable (e : Dev nD) (n : ℕ) : BI.Storable (upEmb : UEmb _ 𝕄) (handX (F := F) e n) := by unfold handX; split <;> infer_instance
omit [FloatOps F] in
instance handY_storable (e : Dev nD) (n : ℕ) : BI.Storable (upEmb : UEmb _ 𝕄) (handY (F := F) e n) := by unfold handY; split <;> infer_instance
instance pay_storable (d : Dev nD) (n : ℕ) (b : Fam) : BI.Storable (upEmb : UEmb _ 𝕄) (pay (F := F) m d n b) := by
  cases b <;> unfold pay <;> infer_instance
omit [FloatOps F] in
instance barPay_storable (d : Dev nD) (t : Bool) : BI.Storable (upEmb : UEmb _ 𝕄) (barPay (F := F) d t) := by
  cases t <;> unfold barPay <;> infer_instance

/-! ## The schedule -/

/-- A barrier's round 0 has two duties of one unit, one from each peer; a DMA semaphore's round is the one copy of its
    chunk, while there are chunks. -/
def sched : Rounds.Schedule (GSem nD τ sig) Bool 𝕄 where
  duties g r := if g.1.2 = .tc then
      (match g.2 with
       | .reg _ => if r = 0 then Finset.univ else ∅
       | .dma q => if chunkN q.val r < 64 then {false} else ∅)
    else ∅
  unitless _ := False
  amount g _ _ := match g.2 with | .reg _ => 1 | .dma _ => N
  payload g r t := match g.2 with
    | .reg _ => barPay g.1.1 t
    | .dma q => pay m g.1.1 (chunkN q.val r) (famOf q.val)
  amount_pos g _ _ _ := by
    match g.2 with
    | .reg _ => exact Nat.one_pos
    | .dma _ => exact N_pos

instance sched_payload_storable (g : GSem nD τ sig) (r : ℕ) (t : Bool) :
    BI.Storable (upEmb : UEmb _ 𝕄) ((sched (F := F) m).payload g r t) := by
  obtain ⟨c, sm⟩ := g
  cases sm
  · show BI.Storable upEmb (barPay (F := F) c.1 t); infer_instance
  · show BI.Storable upEmb (pay (F := F) m c.1 _ _); infer_instance

section Sched
variable (d : Dev nD) (b : Fam) (n : ℕ)

/-- The duties of the barrier's round. -/
theorem duties_bar : (sched (F := F) m).duties (barCell d) 0 = Finset.univ := rfl
/-- The duty of a chunk's copy. -/
theorem duties_fam (h : n < 64) : (sched (F := F) m).duties (cell d b n) (rnd b n) = {false} := by
  show (if chunkN (semOf b n).val (rnd b n) < 64 then ({false} : Finset Bool) else ∅) = _
  rw [chunkN_semOf, if_pos h]
/-- It is a duty. -/
theorem mem_duties_fam (h : n < 64) : false ∈ (sched (F := F) m).duties (cell d b n) (rnd b n) := by
  rw [duties_fam m d b n h]; exact Finset.mem_singleton_self _
/-- Rounds past the last chunk have no duty. -/
theorem duties_done (q : DmaSem sig) (r : ℕ) (h : 64 ≤ chunkN q.val r) :
    (sched (F := F) m).duties ((d : Thread nD τ), .dma q) r = ∅ := by
  show (if chunkN q.val r < 64 then ({false} : Finset Bool) else ∅) = _
  rw [if_neg (by omega)]
/-- The barrier has one round. -/
theorem duties_bar_later (r : ℕ) (h : 1 ≤ r) : (sched (F := F) m).duties (barCell d) r = ∅ := by
  show (if r = 0 then (Finset.univ : Finset Bool) else ∅) = _
  rw [if_neg (by omega)]
/-- The units of the barrier's duties. -/
theorem amount_bar (t : Bool) : (sched (F := F) m).amount (barCell d) 0 t = 1 := rfl
/-- The units of a copy. -/
theorem amount_fam (r : ℕ) (t : Bool) : (sched (F := F) m).amount (cell d b n) r t = N := rfl
/-- The units of the barrier's round. -/
theorem expect_bar : (sched (F := F) m).expect (barCell d) 0 = 2 := by
  unfold Schedule.expect Schedule.amountOf
  rw [duties_bar, Finset.sum_congr rfl fun t _ => amount_bar m d t, Finset.sum_const, Finset.card_univ, Fintype.card_bool, smul_eq_mul]
/-- The units of a copy's round. -/
theorem expect_fam (h : n < 64) : (sched (F := F) m).expect (cell d b n) (rnd b n) = N := by
  unfold Schedule.expect Schedule.amountOf; rw [duties_fam m d b n h, Finset.sum_singleton]; rfl
/-- What a copy's payment hands over. -/
theorem payload_fam (t : Bool) : (sched (F := F) m).payload (cell d b n) (rnd b n) t = pay m d n b := by
  show pay m d (chunkN (semOf b n).val (rnd b n)) (famOf (semOf b n).val) = _
  rw [chunkN_semOf, famOf_semOf]
/-- What a barrier unit's payment hands over. -/
theorem payload_bar (t : Bool) : (sched (F := F) m).payload (barCell d) 0 t = barPay d t := rfl
/-- All a copy's round hands over. -/
theorem rest_fam (h : n < 64) :
    bigSep ((sched (F := F) m).duties (cell d b n) (rnd b n) \ ∅) (fun t => (sched (F := F) m).payload (cell d b n) (rnd b n) t) = pay m d n b := by
  rw [Finset.sdiff_empty, duties_fam m d b n h, bigSep_singleton, payload_fam]
/-- All the barrier's round hands over. -/
theorem rest_bar :
    bigSep ((sched (F := F) m).duties (barCell d) 0 \ ∅) (fun t => (sched (F := F) m).payload (barCell d) 0 t)
      = iprop(barPay d false ∗ barPay d true) := by
  rw [Finset.sdiff_empty, duties_bar, bigSep_univ_eq_bigSepL [false, true] (by decide) (by decide), bigSepL_cons_cons, bigSepL_singleton]
  rfl

end Sched

/-! ## Debts and levels -/

/-- What device `d` owes when it has started `x` copies to its x-peer and `y` to its y-peer. -/
def Owe (d : Dev nD) (x y : ℕ) : CellTallies nD τ sig ℕ :=
  (∑ k ∈ Finset.Ico x 64, tallyAt (cell (xp d) .xr k) k N) + ∑ k ∈ Finset.Ico y 64, tallyAt (cell (yp d) .yr k) k N

/-- The chunks of every cell of a TensorCore. -/
def L (g : GSem nD τ sig) : Finset ℕ := if g.1.2 = .tc then Finset.range 64 else ∅
/-- The order of waiting: chunk `k` from the x-peer, then chunk `k` from the y-peer, then the next; everything else
    first. -/
def lv (g : GSem nD τ sig) (k : ℕ) : ℕ := match g.2 with
  | .reg _ => 0
  | .dma q => match famOf q.val with | .xr => 2 * k + 1 | .yr => 2 * k + 2 | _ => 0

/-- Only a TensorCore's cells have levels. -/
theorem L_of_ne (g : GSem nD τ sig) (h : g.1.2 ≠ .tc) : L g = ∅ := if_neg h
/-- The levels of a TensorCore's cell. -/
theorem L_tc (d : Dev nD) (sm : SemLoc sig) : L ((d : Thread nD τ), sm) = Finset.range 64 := if_pos rfl
/-- The level of a family's cell. -/
theorem lv_fam (d : Dev nD) (b : Fam) (n k : ℕ) :
    lv (cell d b n) k = match b with | .xr => 2 * k + 1 | .yr => 2 * k + 2 | _ => 0 := by
  show (match famOf (semOf b n).val with | .xr => 2 * k + 1 | .yr => 2 * k + 2 | _ => 0) = _
  rw [famOf_semOf]
  cases b <;> rfl

/-- A sum of debts at one cell and index has a debt in one of its terms. -/
theorem sum_owed {g : GSem nD τ sig} {u : ℕ} {s : Finset ℕ} {f : ℕ → GSem nD τ sig}
    (h : 0 < (∑ k ∈ s, (tallyAt (f k) k N : CellTallies nD τ sig ℕ)) g u) : u ∈ s ∧ g = f u := by
  rw [Finset.sum_apply, Finsupp.finsetSum_apply] at h
  obtain ⟨k, hk, hp⟩ := Finset.exists_ne_zero_of_sum_ne_zero (Nat.pos_iff_ne_zero.mp h)
  rw [tallyAt_apply] at hp
  by_cases hc : g = f k ∧ u = k
  · obtain ⟨h1, rfl⟩ := hc; exact ⟨hk, h1⟩
  · rw [if_neg hc] at hp; exact absurd rfl hp

/-- A debt is to a peer's receiving cell, for a chunk not yet sent. -/
theorem Owe_pos {d : Dev nD} {x y : ℕ} {g : GSem nD τ sig} {u : ℕ} (h : 0 < Owe d x y g u) :
    ((x ≤ u ∧ u < 64) ∧ g = cell (xp d) .xr u) ∨ ((y ≤ u ∧ u < 64) ∧ g = cell (yp d) .yr u) := by
  unfold Owe at h
  rw [Pi.add_apply, Finsupp.add_apply] at h
  rcases Nat.add_pos_iff_pos_or_pos.mp h with h | h
  · obtain ⟨h1, h2⟩ := sum_owed h; exact .inl ⟨Finset.mem_Ico.mp h1, h2⟩
  · obtain ⟨h1, h2⟩ := sum_owed h; exact .inr ⟨Finset.mem_Ico.mp h1, h2⟩

/-- A device may wait at index `k` of a cell whose level there is at most `c`, when the chunks it still owes come later. -/
theorem mayWait (d : Dev nD) (sm : SemLoc sig) (k c x y : ℕ) (hk : k < 64) (hl : lv ((d : Thread nD τ), sm) k ≤ c)
    (hx : c < 2 * x + 1) (hy : c < 2 * y + 2) :
    (levAts L lv : sProp 𝕄) ⊢ MayWait (d : Thread nD τ) sm k (Owe d x y) :=
  MayOwe.of_cut (L := L) (lev := lv) c (fun p hp => by rw [Finset.mem_singleton.mp hp, L_tc]; exact Finset.mem_range.mpr hk)
    (fun g u hg => by
      rcases Owe_pos hg with ⟨h, rfl⟩ | ⟨h, rfl⟩
      · rw [L_tc]; exact Finset.mem_range.mpr h.2
      · rw [L_tc]; exact Finset.mem_range.mpr h.2)
    (fun p hp => by rw [Finset.mem_singleton.mp hp]; exact hl)
    (fun g u hg => by
      rcases Owe_pos hg with ⟨h, rfl⟩ | ⟨h, rfl⟩
      · rw [lv_fam]; show c < 2 * u + 1; omega
      · rw [lv_fam]; show c < 2 * u + 2; omega)

/-- The chunks from `x` on are `x` and those after it. -/
theorem Ico_cons (x n : ℕ) (h : x < n) : Finset.Ico x n = insert x (Finset.Ico (x + 1) n) := by
  ext k; simp only [Finset.mem_insert, Finset.mem_Ico]; omega
/-- The chunk `x` is not after itself. -/
theorem notMem_Ico (x n : ℕ) : x ∉ Finset.Ico (x + 1) n := fun h => by have := (Finset.mem_Ico.mp h).1; omega

/-- Starting a copy to the x-peer pays one debt. -/
theorem Owe_x (d : Dev nD) (x y : ℕ) (h : x < 64) : Owe d x y = Owe d (x + 1) y + tallyAt (cell (xp d) .xr x) x N := by
  unfold Owe
  rw [Ico_cons x 64 h, Finset.sum_insert (notMem_Ico x 64), add_assoc, add_comm]
/-- Starting a copy to the y-peer pays one debt. -/
theorem Owe_y (d : Dev nD) (x y : ℕ) (h : y < 64) : Owe d x y = Owe d x (y + 1) + tallyAt (cell (yp d) .yr y) y N := by
  unfold Owe
  rw [Ico_cons y 64 h, Finset.sum_insert (notMem_Ico y 64), add_comm (tallyAt _ _ _), add_assoc]

end Cert.KProof
-- ==== Proof.State.lean ====
/-
# What a device holds, as a table

The resources of a device come in kinds, and each kind is numbered by chunks: the token, credit, position and
round-reached mark of a copy, a free or a filled slot, a piece of the result. At every moment what the device holds of one
kind is an interval of chunks, so its whole state is a table of intervals. An operation takes the first chunk of some
intervals and appends a chunk to others (`need`, `give`); `runT` follows a list of operations through the table, and
`runT_trace` is that the whole body's operations run through from the table the launch deals to the one of the end.
-/
module

public import proofs.«01_k».proof.Proof.Proto

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Kinds of resources -/

/-- The kinds: `T` the token of a copy, `C` its credit, `P` the owner's position, `R` that its round is reached; for each
    buffer `F` a free slot and `D` a filled one (the sums' slots in two half shares, `L` and `R`); `hX`, `hY` the right to
    write a peer's slot; `o1`, `o2` the pieces of the two halves of the result. -/
inductive Kind where
  | T (b : Fam) | C (b : Fam) | P (b : Fam) | R (b : Fam)
  | sF | sD | lF | lD | aLF | aRF | aLD | aRD | xF | xD | yF | yD | hX | hY | o1F | o1D | o2F | o2D
deriving DecidableEq

/-- The device whose cell a copy of a family pays. -/
def tgt (d : Dev nD) : Fam → Dev nD
  | .xr => xp d
  | .yr => yp d
  | _ => d

/-- The resource of a kind at chunk `n`, for device `d`. -/
def Res (d : Dev nD) (n : ℕ) : Kind → sProp 𝕄
  | .T b => tokP (tgt d b) b n
  | .C b => credP d b n
  | .P b => posP d b n
  | .R b => reaP d b n
  | .sF => vAny (slotV sendM n) d fullShare
  | .sD => vHas (slotV sendM n) d fullShare (Sx m d n)
  | .lF => vAny (slotV locM n) d fullShare
  | .lD => vHas (slotV locM n) d fullShare (Ow m d n)
  | .aLF => vAny (slotV redM n) d qL
  | .aRF => vAny (slotV redM n) d qR
  | .aLD => vHas (slotV redM n) d qL (Red m d n)
  | .aRD => vHas (slotV redM n) d qR (Red m d n)
  | .xF => vAny (slotV rxM n) d fullShare
  | .xD => vHas (slotV rxM n) d fullShare (Sx m (xp d) n)
  | .yF => vAny (slotV ryM n) d fullShare
  | .yD => vHas (slotV ryM n) d fullShare (Red m (yp d) n)
  | .hX => handX (xp d) n
  | .hY => handY (yp d) n
  | .o1F => vAny (out1V d (ch n)) d fullShare
  | .o1D => vHas (out1V d (ch n)) d fullShare (Red m d n)
  | .o2F => vAny (out2V d (ch n)) d fullShare
  | .o2D => vHas (out2V d (ch n)) d fullShare (Red m (yp d) n)

/-- A list of resources. -/
def items (d : Dev nD) : List (Kind × ℕ) → sProp 𝕄
  | [] => iprop(emp)
  | x :: l => iprop(Res m d x.2 x.1 ∗ items d l)

/-! ## What an operation takes and gives -/

/-- What a wait of family `b` for chunk `k` takes. -/
def needW (b : Fam) (k : ℕ) : List (Kind × ℕ) := [(.C b, k), (.P b, k)]
/-- What it gives besides the copy's payload. -/
def giveW (b : Fam) (k : ℕ) : List (Kind × ℕ) := [(.P b, k + win b), (.R b, k + win b)]

/-- What an operation takes. -/
def need : Op → List (Kind × ℕ)
  | .sigX | .sigY | .barW => []
  | .srcS k => [(.T .sr, k), (.R .sr, k), (.sF, k)]
  | .srcW k => needW .sr k
  | .inS k => [(.T .lo, k), (.R .lo, k), (.lF, k)]
  | .inW k => needW .lo k
  | .xS k => [(.T .xs, k), (.R .xs, k), (.T .xr, k), (.sD, k), (.hX, k)] ++ if k + 2 < 64 then [(.xF, k + 2), (.R .xr, k + 2)] else []
  | .xsW k => needW .xs k
  | .xrW k => needW .xr k
  | .add k => [(.lD, k), (.xD, k), (.aLF, k), (.aRF, k)]
  | .o1S k => [(.T .o1, k), (.R .o1, k), (.aLD, k), (.o1F, k)]
  | .o1W k => needW .o1 k
  | .yS k => [(.T .ys, k), (.R .ys, k), (.T .yr, k), (.aRD, k), (.hY, k)] ++ if k + 2 < 64 then [(.yF, k + 2), (.R .yr, k + 2)] else []
  | .ysW k => needW .ys k
  | .yrW k => needW .yr k
  | .o2S k => [(.T .o2, k), (.R .o2, k), (.yD, k), (.o2F, k)]
  | .o2W k => needW .o2 k

/-- What an operation gives. -/
def give : Op → List (Kind × ℕ)
  | .sigX | .sigY | .barW => []
  | .srcS k => [(.C .sr, k)]
  | .srcW k => giveW .sr k ++ [(.sD, k)]
  | .inS k => [(.C .lo, k)]
  | .inW k => giveW .lo k ++ [(.lD, k)]
  | .xS k => [(.C .xs, k)]
  | .xsW k => giveW .xs k ++ [(.sF, k + 4)]
  | .xrW k => giveW .xr k ++ [(.xD, k), (.hX, k + 2)]
  | .add k => [(.lF, k + 4), (.xF, k + 4), (.aLD, k), (.aRD, k)]
  | .o1S k => [(.C .o1, k)]
  | .o1W k => giveW .o1 k ++ [(.o1D, k), (.aLF, k + 4)]
  | .yS k => [(.C .ys, k)]
  | .ysW k => giveW .ys k ++ [(.aRF, k + 4)]
  | .yrW k => giveW .yr k ++ [(.yD, k), (.hY, k + 2)]
  | .o2S k => [(.C .o2, k)]
  | .o2W k => giveW .o2 k ++ [(.o2D, k), (.yF, k + 4)]

/-- The copies to the peers started, before and after an operation. -/
def sent : Op → ℕ × ℕ → ℕ × ℕ
  | .xS _, p => (p.1 + 1, p.2)
  | .yS _, p => (p.1, p.2 + 1)
  | _, p => p

/-- When an operation may run, `x` copies to the x-peer and `y` to the y-peer started: its chunk is one, a copy to a peer
    is the next one, and a wait for a peer's copy comes before every copy still owed. -/
def may (o : Op) (p : ℕ × ℕ) : Bool := match o with
  | .sigX | .sigY | .barW => false
  | .xS k => decide (k < 64 ∧ k = p.1)
  | .yS k => decide (k < 64 ∧ k = p.2)
  | .xrW k => decide (k < 64 ∧ k < p.1 ∧ k ≤ p.2)
  | .yrW k => decide (k < 64 ∧ k + 1 ≤ p.1 ∧ k < p.2)
  | .srcS k | .srcW k | .inS k | .inW k | .xsW k | .add k | .o1S k | .o1W k | .ysW k | .o2S k | .o2W k => decide (k < 64)

/-! ## Tables -/

/-- A table: each kind with the interval of chunks held of it. -/
abbrev Tab : Type := List (Kind × ℕ × ℕ)

/-- The resources of a table. -/
def tab (d : Dev nD) : Tab → sProp 𝕄
  | [] => iprop(emp)
  | x :: t => iprop((bigSep (Finset.Ico x.2.1 x.2.2) fun n => Res m d n x.1) ∗ tab d t)

/-- Take chunk `n` of kind `κ` off the front of its interval. -/
def take1 (κ : Kind) (n : ℕ) : Tab → Option Tab
  | [] => none
  | x :: t => if x.1 = κ then (if x.2.1 = n ∧ n < x.2.2 then some ((x.1, n + 1, x.2.2) :: t) else none)
      else (take1 κ n t).map (x :: ·)

/-- Append chunk `n` of kind `κ` to its interval. -/
def put1 (κ : Kind) (n : ℕ) : Tab → Option Tab
  | [] => none
  | x :: t => if x.1 = κ then (if x.2.2 = n ∧ x.2.1 ≤ n then some ((x.1, x.2.1, n + 1) :: t) else none)
      else (put1 κ n t).map (x :: ·)

/-- Take a list of resources. -/
def takes : List (Kind × ℕ) → Tab → Option Tab
  | [], t => some t
  | x :: l, t => (take1 x.1 x.2 t).bind (takes l)

/-- Append a list of resources. -/
def puts : List (Kind × ℕ) → Tab → Option Tab
  | [], t => some t
  | x :: l, t => (put1 x.1 x.2 t).bind (puts l)

/-- Follow a list of operations through the table and the numbers of copies started. -/
def runT : List Op → ℕ × ℕ → Tab → Option (Tab × ℕ × ℕ)
  | [], p, t => some (t, p)
  | o :: l, p, t => if may o p then ((takes (need o) t).bind (puts (give o))).bind (runT l (sent o p)) else none

/-- The first chunk of an interval and the rest. -/
theorem ico_take (Φ : ℕ → sProp 𝕄) (a b : ℕ) (h : a < b) :
    bigSep (Finset.Ico a b) Φ = iprop(Φ a ∗ bigSep (Finset.Ico (a + 1) b) Φ) := by
  rw [Ico_cons a b h, bigSep_insert (notMem_Ico a b)]; rfl

/-- An interval and the chunk after it. -/
theorem ico_put (Φ : ℕ → sProp 𝕄) (a b : ℕ) (h : a ≤ b) :
    bigSep (Finset.Ico a (b + 1)) Φ = iprop(Φ b ∗ bigSep (Finset.Ico a b) Φ) := by
  have e : Finset.Ico a (b + 1) = insert b (Finset.Ico a b) := by
    ext k; simp only [Finset.mem_insert, Finset.mem_Ico]; omega
  rw [e, bigSep_insert (fun h' => by have := (Finset.mem_Ico.mp h').2; omega)]; rfl

/-- Taking off the table. -/
theorem take1_sound (d : Dev nD) (κ : Kind) (n : ℕ) : ∀ (t t' : Tab), take1 κ n t = some t' →
    (tab m d t : sProp 𝕄) ⊢ iprop(Res m d n κ ∗ tab m d t')
  | [], t', h => by cases h
  | x :: t, t', h => by
    unfold take1 at h
    split at h
    · next hκ =>
      split at h
      · next hn =>
        obtain ⟨rfl, hl⟩ := hn
        cases h
        subst hκ
        show iprop((bigSep (Finset.Ico x.2.1 x.2.2) fun n => Res m d n x.1) ∗ tab m d t) ⊢ iprop(Res m d x.2.1 x.1 ∗ ((bigSep (Finset.Ico (x.2.1 + 1) x.2.2) fun n => Res m d n x.1) ∗ tab m d t))
        rw [ico_take (fun n => Res m d n x.1) x.2.1 x.2.2 hl]
        iintro ⟨⟨H, H'⟩, Ht⟩
        isplitl [H]; · iexact H
        isplitl [H'] <;> iassumption
      · cases h
    · obtain ⟨t₁, h₁, rfl⟩ := Option.map_eq_some_iff.mp h
      show iprop((bigSep (Finset.Ico x.2.1 x.2.2) fun n => Res m d n x.1) ∗ tab m d t) ⊢ iprop(Res m d n κ ∗ ((bigSep (Finset.Ico x.2.1 x.2.2) fun n => Res m d n x.1) ∗ tab m d t₁))
      iintro ⟨H, Ht⟩
      ihave H' := (take1_sound d κ n t t₁ h₁) $$ Ht
      icases H' with ⟨Hr, Ht⟩
      isplitl [Hr]; · iexact Hr
      isplitl [H] <;> iassumption

/-- Appending to the table. -/
theorem put1_sound (d : Dev nD) (κ : Kind) (n : ℕ) : ∀ (t t' : Tab), put1 κ n t = some t' →
    iprop(Res m d n κ ∗ tab m d t) ⊢ (tab m d t' : sProp 𝕄)
  | [], t', h => by cases h
  | x :: t, t', h => by
    unfold put1 at h
    split at h
    · next hκ =>
      split at h
      · next hn =>
        obtain ⟨rfl, hl⟩ := hn
        cases h
        subst hκ
        show iprop(Res m d x.2.2 x.1 ∗ ((bigSep (Finset.Ico x.2.1 x.2.2) fun n => Res m d n x.1) ∗ tab m d t)) ⊢ iprop((bigSep (Finset.Ico x.2.1 (x.2.2 + 1)) fun n => Res m d n x.1) ∗ tab m d t)
        rw [ico_put (fun n => Res m d n x.1) x.2.1 x.2.2 hl]
        iintro ⟨H, H', Ht⟩
        isplitr [Ht]; · (isplitl [H] <;> iassumption)
        iexact Ht
      · cases h
    · obtain ⟨t₁, h₁, rfl⟩ := Option.map_eq_some_iff.mp h
      show iprop(Res m d n κ ∗ ((bigSep (Finset.Ico x.2.1 x.2.2) fun n => Res m d n x.1) ∗ tab m d t)) ⊢ iprop((bigSep (Finset.Ico x.2.1 x.2.2) fun n => Res m d n x.1) ∗ tab m d t₁)
      iintro ⟨Hr, H, Ht⟩
      isplitl [H]; · iexact H
      iapply (put1_sound d κ n t t₁ h₁)
      isplitl [Hr] <;> iassumption

/-- Taking a list off the table. -/
theorem takes_sound (d : Dev nD) : ∀ (l : List (Kind × ℕ)) (t t' : Tab), takes l t = some t' →
    (tab m d t : sProp 𝕄) ⊢ iprop(items m d l ∗ tab m d t')
  | [], t, t', h => by
    cases h
    show (tab m d t : sProp 𝕄) ⊢ iprop(emp ∗ tab m d t)
    iintro H; isplitr; · iempintro
    iexact H
  | x :: l, t, t', h => by
    obtain ⟨t₁, h₁, h₂⟩ := Option.bind_eq_some_iff.mp h
    show (tab m d t : sProp 𝕄) ⊢ iprop((Res m d x.2 x.1 ∗ items m d l) ∗ tab m d t')
    iintro H
    ihave H' := (take1_sound m d x.1 x.2 t t₁ h₁) $$ H
    icases H' with ⟨Hr, H⟩
    ihave H' := (takes_sound d l t₁ t' h₂) $$ H
    icases H' with ⟨Hl, H⟩
    isplitr [H]; · (isplitl [Hr] <;> iassumption)
    iexact H

/-- Appending a list to the table. -/
theorem puts_sound (d : Dev nD) : ∀ (l : List (Kind × ℕ)) (t t' : Tab), puts l t = some t' →
    iprop(items m d l ∗ tab m d t) ⊢ (tab m d t' : sProp 𝕄)
  | [], t, t', h => by
    cases h
    show iprop(emp ∗ tab m d t) ⊢ (tab m d t : sProp 𝕄)
    iintro ⟨-, H⟩; iexact H
  | x :: l, t, t', h => by
    obtain ⟨t₁, h₁, h₂⟩ := Option.bind_eq_some_iff.mp h
    show iprop((Res m d x.2 x.1 ∗ items m d l) ∗ tab m d t) ⊢ (tab m d t' : sProp 𝕄)
    iintro ⟨⟨Hr, Hl⟩, H⟩
    iapply (puts_sound d l t₁ t' h₂)
    isplitl [Hl]; · iexact Hl
    iapply (put1_sound m d x.1 x.2 t t₁ h₁)
    isplitl [Hr] <;> iassumption

/-! ## The body's table -/

/-- The table of a family whose copies the device starts. -/
def own (b : Fam) (s : ℕ) : Tab := [(.T b, s, 64), (.C b, s, s), (.P b, s, s + win b), (.R b, s, s + win b)]

/-- The table after the barrier: every copy still to come, the slots free, two slots of each peer handed over and two of
    the device's own handed to each peer. -/
def tab₀ : Tab :=
  own .sr 0 ++ own .lo 0 ++ own .xs 0 ++ own .ys 0 ++ own .o1 0 ++ own .o2 0 ++
  [(.T .xr, 0, 64), (.C .xr, 0, 64), (.P .xr, 0, 4), (.R .xr, 2, 4), (.T .yr, 0, 64), (.C .yr, 0, 64), (.P .yr, 0, 4), (.R .yr, 2, 4),
   (.sF, 0, 4), (.sD, 0, 0), (.lF, 0, 4), (.lD, 0, 0), (.aLF, 0, 4), (.aRF, 0, 4), (.aLD, 0, 0), (.aRD, 0, 0),
   (.xF, 2, 4), (.xD, 0, 0), (.yF, 2, 4), (.yD, 0, 0), (.hX, 0, 2), (.hY, 0, 2),
   (.o1F, 0, 64), (.o1D, 0, 0), (.o2F, 0, 64), (.o2D, 0, 0)]

/-- The table at the end: every copy done, every slot free again, the whole result written. -/
def tab₁ : Tab :=
  own .sr 64 ++ own .lo 64 ++ own .xs 64 ++ own .ys 64 ++ own .o1 64 ++ own .o2 64 ++
  [(.T .xr, 64, 64), (.C .xr, 64, 64), (.P .xr, 64, 68), (.R .xr, 64, 68), (.T .yr, 64, 64), (.C .yr, 64, 64), (.P .yr, 64, 68), (.R .yr, 64, 68),
   (.sF, 64, 68), (.sD, 64, 64), (.lF, 64, 68), (.lD, 64, 64), (.aLF, 64, 68), (.aRF, 64, 68), (.aLD, 64, 64), (.aRD, 64, 64),
   (.xF, 64, 68), (.xD, 64, 64), (.yF, 64, 68), (.yD, 64, 64), (.hX, 64, 66), (.hY, 64, 66),
   (.o1F, 64, 64), (.o1D, 0, 64), (.o2F, 64, 64), (.o2D, 0, 64)]

/-- The operations after the barrier. -/
def rest : List Op := [.srcS 0, .srcS 1, .inS 0, .srcW 0, .xS 0] ++ iters 64 0 [.ysW 63, .yrW 63, .o2S 63, .o1W 63, .o2W 62, .o2W 63]

/-- The whole body is the barrier and those. -/
theorem trace_eq : trace = .sigX :: .sigY :: .barW :: rest := rfl

set_option maxRecDepth 65536 in
/-- The operations after the barrier run through, from the launch's table to the end's. -/
theorem runT_rest : runT rest (0, 0) tab₀ = some (tab₁, 64, 64) := by decide +kernel

end Cert.KProof
-- ==== Proof.Steps.lean ====
/-
# One operation at a time

`wp_op`: an operation of the body after the barrier runs from what it takes (`need`) to what it gives (`give`).
-/
module

public import proofs.«01_k».proof.Proof.State

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The launch's variants: none. -/
abbrev 𝒱₀ : Variants := Variants.none

/-- The cells' invariants, at the names `K`, and the levels. -/
def Ctx (K : Dev nD × SemLoc sig → ℕ) : sProp 𝕄 :=
  iprop((bigSep Finset.univ fun c : Dev nD × SemLoc sig => cellInv ER (sched m) (K c) (kcell c)) ∗ levAts L lv)

instance ctx_persistent (K : Dev nD × SemLoc sig → ℕ) : BI.Persistent (Ctx (F := F) m K) := by unfold Ctx; infer_instance

variable (K : Dev nD × SemLoc sig → ℕ)

/-- One cell's invariant. -/
theorem ctx_inv (d : Dev nD) (sm : SemLoc sig) : Ctx m K ⊢ (cellInv ER (sched m) (K (d, sm)) ((d : Thread nD τ), sm) : sProp 𝕄) := by
  unfold Ctx
  have h : (bigSep Finset.univ fun c : Dev nD × SemLoc sig => cellInv ER (sched m) (K c) (kcell c))
      ⊢ (cellInv ER (sched m) (K (d, sm)) ((d : Thread nD τ), sm) : sProp 𝕄) := bigSep_elim (Finset.mem_univ (d, sm))
  iintro ⟨H, -⟩
  iapply h $$ H
/-- The levels. -/
theorem ctx_lev : Ctx m K ⊢ (levAts L lv : sProp 𝕄) := by unfold Ctx; iintro ⟨-, H⟩; iexact H

/-- Some share of the argument's block. -/
def argP (d : Dev nD) : sProp 𝕄 := iprop(∃ q : PosShare TreeShare, ((d : Thread nD τ).loc main_arg0) ↦{q} X m d)

/-- What device `d` owes, `x` and `y` copies to its peers started. -/
def oweP (d : Dev nD) (x y : ℕ) : sProp 𝕄 := iprop(∃ W : Waits sig ℕ, owes (d : Thread nD τ) (Owe d x y) W)

/-- The weakest precondition of a program of device `d`'s TensorCore. -/
abbrev wpD (d : Dev nD) (e : TP F) (Q : PUnit → sProp 𝕄) : sProp 𝕄 :=
  wp frame (wpE (defs₀ (F := F)) 𝒱₀ (d : Thread nD τ) none) Set.univ e Q

/-- The next use of a slot is the same slot. -/
theorem slotOf_add (n : ℕ) : slotOf (n + 4) = slotOf n := Fin.ext (Nat.add_mod_right n 4)

/-- Forgetting the contents. -/
theorem vHas_any {sp : Space} (V : Memref sig .tc sp S128x1024 .f32) (d : Dev nD) (q : PosShare TreeShare) (v : Vec F S128x1024 .f32) :
    vHas V d q v ⊢ (vAny V d q : sProp 𝕄) := by
  unfold vHas vAny
  iintro ⟨%f, -, H⟩
  iexists f; iexact H

/-- A piece of the argument's block, at a share taken off the block's. -/
theorem arg_piece (d : Dev nD) (V : Memref sig .tc .hbm S128x1024 .f32) (v : Vec F S128x1024 .f32)
    (hl : V.view.loc (d : Thread nD τ) = (d : Thread nD τ).loc main_arg0)
    (hv : ∀ q, (((d : Thread nD τ).loc main_arg0) ↦{q} X m d : sProp 𝕄) ⊢ vHas V d q v) :
    argP m d ⊢ (iprop((∃ q, vHas V d q v) ∗ argP m d) : sProp 𝕄) := by
  unfold argP
  iintro ⟨%q, H⟩
  ihave H' := (pointsTo_share (PosShare.mem_left_op_right q)).1 $$ H
  icases H' with ⟨H1, H2⟩
  isplitl [H1]
  · iexists q.left; iapply (hv q.left); iexact H1
  · iexists q.right; iexact H2

/-- A chunk of the argument in the x-peer's columns. -/
theorem arg_peer (d : Dev nD) (n : ℕ) : argP m d ⊢ (iprop((∃ q, vHas (peerV d (ch n)) d q (Sx m d n)) ∗ argP m d) : sProp 𝕄) :=
  arg_piece m d _ _ rfl fun q => by
    unfold vHas
    iintro H
    iexists X m d
    isplitr; · ipureintro; rfl
    ihave H' := (pointsTo_split_subset (Finset.subset_univ ((peerV d (ch n)).view.set))).1 $$ H
    icases H' with ⟨H, -⟩; iexact H
/-- A chunk of the argument in the device's own columns. -/
theorem arg_own (d : Dev nD) (n : ℕ) : argP m d ⊢ (iprop((∃ q, vHas (ownV d (ch n)) d q (Ow m d n)) ∗ argP m d) : sProp 𝕄) :=
  arg_piece m d _ _ rfl fun q => by
    unfold vHas
    iintro H
    iexists X m d
    isplitr; · ipureintro; rfl
    ihave H' := (pointsTo_split_subset (Finset.subset_univ ((ownV d (ch n)).view.set))).1 $$ H
    icases H' with ⟨H, -⟩; iexact H

/-! ## Waits -/

/-- Waiting for a family's copy of chunk `n`: its payload, and the semaphore's next round. -/
theorem fam_wait (d : Dev nD) (b : Fam) (n x y c : ℕ) (hn : n < 64) (hl : lv (cell d b n) n ≤ c) (hx : c < 2 * x + 1) (hy : c < 2 * y + 2)
    {sp sp' : Space} {src : Memref sig .tc sp S128x1024 .f32} {dst : Memref sig .tc sp' S128x1024 .f32} {h1 : src.view.WordExact} {h2 : dst.view.WordExact}
    (hN : dst.view.dmaCredit = N) {k : PUnit → TP F} {Q : PUnit → sProp 𝕄} :
    iprop(Ctx m K ∗ oweP d x y ∗ credP d b n ∗ posP d b n)
      ⊢ iprop(((oweP d x y ∗ posP d b (n + win b) ∗ reaP d b (n + win b) ∗ pay m d n b) -∗ wpD d (k ⟨⟩) Q)
          -∗ wpD d (.op (.waitDma2 (semOf b n) src dst h1 h2) k) Q) := by
  unfold oweP credP posP reaP
  iintro ⟨#HC, ⟨%W, HO⟩, Hc, Hat⟩ Hk
  iapply (Rounds.wp_wait_rest_token 𝒱₀ ER (sched m) (d : Thread nD τ) none (κ := K (d, .dma (semOf b n)))
      (wpE_waitDma2_eq 𝒱₀ (d : Thread nD τ) none Set.univ) (Set.mem_univ _) n (O := Owe d x y) (W := W) (R := rnd b n) (m := 0) (T := ∅)
      (by rw [expect_fam m d b n hn, Nat.zero_add])) $$ [Hc HO Hat]
  · isplitr; · iapply (ctx_inv m K d (.dma (semOf b n))) $$ HC
    isplitl [Hc]; · rw [hN]; iexact Hc
    isplitl [HO]; · iexact HO
    isplitr
    · iapply (mayWait d (.dma (semOf b n)) n c x y hn hl hx hy); iapply (ctx_lev m K); iexact HC
    iexact Hat
  iintro ⟨HO, Hat, Hr, Hpay⟩
  iapply Hk
  isplitl [HO]; · iexists _; iexact HO
  have e : cell d b (n + win b) = cell d b n := by rw [cell, semOf_succ]
  rw [rnd_succ, e]
  isplitl [Hat]; · iexact Hat
  isplitl [Hr]; · iexact Hr
  iapply (Entails.of_eq (rest_fam m d b n hn)) $$ Hpay

/-! ## Copies -/

/-- Starting a family's copy of chunk `n` inside the device. -/
theorem fam_copy (d : Dev nD) (b : Fam) (n : ℕ) (hn : n < 64)
    {sp sp' : Space} {src : Memref sig .tc sp S128x1024 .f32} {dst : Memref sig .tc sp' S128x1024 .f32} {h1 : src.view.WordExact} {h2 : dst.view.WordExact}
    {h3 : (DmaTarget.here dst : DmaTarget nD τ sig .tc sp' S128x1024 .f32).Typed sp (.dma (semOf b n))}
    (hN : dst.view.dmaCredit = N) (q : PosShare TreeShare) (v : Vec F S128x1024 .f32)
    (hpay : iprop(vHas dst d fullShare v ∗ vHas src d q v) ⊢ (pay m d n b : sProp 𝕄)) {k : PUnit → TP F} {Q : PUnit → sProp 𝕄} :
    iprop(Ctx m K ∗ vHas src d q v ∗ vAny dst d fullShare ∗ tokP d b n ∗ reaP d b n)
      ⊢ iprop((credP d b n -∗ wpD d (k ⟨⟩) Q) -∗ wpD d (.op (.enqueueDma src (.here dst) (.dma (semOf b n)) h1 h2 h3) k) Q) := by
  unfold credP tokP reaP
  unfold vHas vAny
  iintro ⟨#HC, ⟨%fs, %hfs, Hs⟩, ⟨%fd, Hd⟩, Ht, Hr⟩ Hk
  iapply (Rounds.wp_copy_pointsTo 𝒱₀ ER (sched m) (d : Thread nD τ) none (κ := K (d, .dma (semOf b n))) (fs := fs) (fd := fd) (q := q)
      (mem_duties_fam m d b n hn) n N hN (amount_fam m d b n _ _) (by
        rw [payload_fam]
        refine (show _ ⊢ _ from ?_).trans hpay
        unfold vHas
        iintro ⟨Hd, Hs⟩
        isplitl [Hd]
        · iexists (dst.view.write (Elt F) fd (src.view.read (Elt F) fs) Finset.univ); isplitr
          · ipureintro; exact (View.read_write_univ _ _).trans hfs
          iexact Hd
        · iexists fs; isplitr; · (ipureintro; exact hfs)
          iexact Hs)) $$ [Hs Hd Ht Hr]
  · isplitr; · iapply (ctx_inv m K d (.dma (semOf b n))) $$ HC
    isplitl [Hs]; · iexact Hs
    isplitl [Hd]; · iexact Hd
    isplitl [Ht] <;> iassumption
  iexact Hk

/-- Starting a copy of chunk `n` to the peer `p`: families `b` at the sender, `b'` at the receiver. -/
theorem fam_send (d p p' : Dev nD) (b b' : Fam) (n x y x' y' : ℕ) (hn : n < 64) (hp : p' = p)
    {src dst : Memref sig .tc .vmem S128x1024 .f32} {hsc : dst.view.ref.isScScratch = false} {h1 : src.view.WordExact} {h2 : dst.view.WordExact}
    {h3 : (DmaTarget.remote (Dev.tc p' : Thread nD τ) dst (.dma (semOf b n)) hsc : DmaTarget nD τ sig .tc .vmem S128x1024 .f32).Typed .vmem (.dma (semOf b' n))}
    (hN : dst.view.dmaCredit = N) (q : PosShare TreeShare) (v : Vec F S128x1024 .f32) (G : sProp 𝕄)
    (hO : Owe d x y = Owe d x' y' + tallyAt (cell p b' n) n N)
    (hpay : (vHas src d q v : sProp 𝕄) ⊢ pay m d n b)
    (hpay' : iprop(vHas dst p fullShare v ∗ G) ⊢ (pay m p n b' : sProp 𝕄)) {k : PUnit → TP F} {Q : PUnit → sProp 𝕄} :
    iprop(Ctx m K ∗ vHas src d q v ∗ (vAny dst p fullShare ∗ reaP p b' n) ∗ G ∗ oweP d x y
        ∗ tokP d b n ∗ reaP d b n ∗ tokP p b' n)
      ⊢ iprop(((credP d b n ∗ oweP d x' y') -∗ wpD d (k ⟨⟩) Q)
          -∗ wpD d (.op (.enqueueDma src (.remote (Dev.tc p' : Thread nD τ) dst (.dma (semOf b n)) hsc) (.dma (semOf b' n)) h1 h2 h3) k) Q) := by
  subst hp
  unfold oweP credP tokP reaP
  unfold vHas vAny
  iintro ⟨#HC, ⟨%fs, %hfs, Hs⟩, ⟨⟨%fd, Hd⟩, Hr'⟩, HG, ⟨%W, HO⟩, Ht, Hr, Ht'⟩ Hk
  iapply (Rounds.wp_send_pointsTo_with 𝒱₀ ER (sched m) (d : Thread nD τ) none (κ₁ := K (d, .dma (semOf b n))) (κ₂ := K (p', .dma (semOf b' n)))
      (fs := fs) (fd := fd) (q := q) (F := G) (mem_duties_fam m d b n hn) (mem_duties_fam m p' b' n hn) n n N hN (amount_fam m d b n _ _) (amount_fam m p' b' n _ _)
      (Owe d x' y') hO (W := W)
      (by
        rw [payload_fam]
        refine (show _ ⊢ _ from ?_).trans hpay
        unfold vHas
        iintro Hs
        iexists fs; isplitr; · (ipureintro; exact hfs)
        iexact Hs)
      (by
        rw [payload_fam]
        refine (show _ ⊢ _ from ?_).trans hpay'
        unfold vHas
        iintro ⟨Hd, HG⟩
        isplitl [Hd]
        · iexists (dst.view.write (Elt F) fd (src.view.read (Elt F) fs) Finset.univ); isplitr
          · ipureintro; exact (View.read_write_univ _ _).trans hfs
          iexact Hd
        · iexact HG)) $$ [Hs Hd HG HO Ht Hr Ht' Hr']
  · isplitr; · iapply (ctx_inv m K d (.dma (semOf b n))) $$ HC
    isplitr; · iapply (ctx_inv m K p' (.dma (semOf b' n))) $$ HC
    isplitl [Hs]; · iexact Hs
    isplitl [Hd HG]; · (isplitl [Hd] <;> iassumption)
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- A slot comes round after four chunks. -/
theorem slotV_add {b : Memref sig .tc .vmem S4x128x1024 .f32} (n : ℕ) : slotV b (n + 4) = slotV b n := by
  unfold slotV; rw [slotOf_add]

/-! ## The operations -/

/-- What holds around one operation `o` on device `d`: from what it takes to what it gives, the copies to the peers
    counted. -/
def OpSpec (d : Dev nD) (o : Op) : Prop :=
  ∀ (x y : ℕ) (l : List Op) (Q : PUnit → sProp 𝕄), may o (x, y) = true →
    iprop(Ctx m K ∗ argP m d ∗ oweP d x y ∗ items m d (need o))
      ⊢ iprop(((argP m d ∗ oweP d (sent o (x, y)).1 (sent o (x, y)).2 ∗ items m d (give o)) -∗ wpD d (runP d l) Q)
          -∗ wpD d (runP d (o :: l)) Q)

/-- The x-peer's columns start coming in. -/
theorem op_srcS (d : Dev nD) (k : ℕ) : OpSpec m K d (.srcS k) := by
  intro x y l Q h
  have hk : k < 64 := of_decide_eq_true h
  simp only [runP, opP, Prog.lift, Prog.bind_op, Prog.bind_ret, items, need, give, Res, tgt, sent]
  iintro ⟨#HC, Harg, HO, Ht, Hr, Hf, -⟩ Hk
  ihave H := (arg_peer m d k) $$ Harg
  icases H with ⟨⟨%q, Hs⟩, Harg⟩
  iapply (fam_copy m K d .sr k hk (src := peerV d (ch k)) (dst := slotV sendM k) rfl q (Sx m d k)
    (by show _ ⊢ vHas (slotV sendM k) d fullShare (Sx m d k); iintro ⟨H, -⟩; iexact H)) $$ [Hs Ht Hr Hf]
  · isplitr; · iexact HC
    isplitl [Hs]; · iexact Hs
    isplitl [Hf]; · iexact Hf
    isplitl [Ht] <;> iassumption
  iintro Hc
  iapply Hk
  isplitl [Harg]; · iexact Harg
  isplitl [HO]; · iexact HO
  isplitl [Hc]; · iexact Hc
  iempintro

/-- The device's own rows start coming in. -/
theorem op_inS (d : Dev nD) (k : ℕ) : OpSpec m K d (.inS k) := by
  intro x y l Q h
  have hk : k < 64 := of_decide_eq_true h
  simp only [runP, opP, Prog.lift, Prog.bind_op, Prog.bind_ret, items, need, give, Res, tgt, sent]
  iintro ⟨#HC, Harg, HO, Ht, Hr, Hf, -⟩ Hk
  ihave H := (arg_own m d k) $$ Harg
  icases H with ⟨⟨%q, Hs⟩, Harg⟩
  iapply (fam_copy m K d .lo k hk (src := ownV d (ch k)) (dst := slotV locM k) rfl q (Ow m d k)
    (by show _ ⊢ vHas (slotV locM k) d fullShare (Ow m d k); iintro ⟨H, -⟩; iexact H)) $$ [Hs Ht Hr Hf]
  · isplitr; · iexact HC
    isplitl [Hs]; · iexact Hs
    isplitl [Hf]; · iexact Hf
    isplitl [Ht] <;> iassumption
  iintro Hc
  iapply Hk
  isplitl [Harg]; · iexact Harg
  isplitl [HO]; · iexact HO
  isplitl [Hc]; · iexact Hc
  iempintro

/-- The sum starts going out to the device's own half. -/
theorem op_o1S (d : Dev nD) (k : ℕ) : OpSpec m K d (.o1S k) := by
  intro x y l Q h
  have hk : k < 64 := of_decide_eq_true h
  simp only [runP, opP, Prog.lift, Prog.bind_op, Prog.bind_ret, items, need, give, Res, tgt, sent]
  iintro ⟨#HC, Harg, HO, Ht, Hr, Hs, Hf, -⟩ Hk
  iapply (fam_copy m K d .o1 k hk (src := slotV redM k) (dst := out1V d (ch k)) rfl qL (Red m d k)
    (by
      show _ ⊢ iprop(vHas (out1V d (ch k)) d fullShare (Red m d k) ∗ vAny (slotV redM k) d qL)
      iintro ⟨H, H'⟩
      isplitl [H]; · iexact H
      iapply (vHas_any _ _ _ _) $$ H')) $$ [Hs Ht Hr Hf]
  · isplitr; · iexact HC
    isplitl [Hs]; · iexact Hs
    isplitl [Hf]; · iexact Hf
    isplitl [Ht] <;> iassumption
  iintro Hc
  iapply Hk
  isplitl [Harg]; · iexact Harg
  isplitl [HO]; · iexact HO
  isplitl [Hc]; · iexact Hc
  iempintro

/-- The y-peer's sum starts going out to the other half. -/
theorem op_o2S (d : Dev nD) (k : ℕ) : OpSpec m K d (.o2S k) := by
  intro x y l Q h
  have hk : k < 64 := of_decide_eq_true h
  simp only [runP, opP, Prog.lift, Prog.bind_op, Prog.bind_ret, items, need, give, Res, tgt, sent]
  iintro ⟨#HC, Harg, HO, Ht, Hr, Hs, Hf, -⟩ Hk
  iapply (fam_copy m K d .o2 k hk (src := slotV ryM k) (dst := out2V d (ch k)) rfl fullShare (Red m (yp d) k)
    (by
      show _ ⊢ iprop(vHas (out2V d (ch k)) d fullShare (Red m (yp d) k) ∗ vAny (slotV ryM k) d fullShare)
      iintro ⟨H, H'⟩
      isplitl [H]; · iexact H
      iapply (vHas_any _ _ _ _) $$ H')) $$ [Hs Ht Hr Hf]
  · isplitr; · iexact HC
    isplitl [Hs]; · iexact Hs
    isplitl [Hf]; · iexact Hf
    isplitl [Ht] <;> iassumption
  iintro Hc
  iapply Hk
  isplitl [Harg]; · iexact Harg
  isplitl [HO]; · iexact HO
  isplitl [Hc]; · iexact Hc
  iempintro

/-- A wait: what family `b`'s payload gives (`g`) comes with the semaphore's next round. -/
theorem op_wait (d : Dev nD) (o : Op) (b : Fam) (k : ℕ) (g : List (Kind × ℕ))
    {sp sp' : Space} {src : Memref sig .tc sp S128x1024 .f32} {dst : Memref sig .tc sp' S128x1024 .f32} {h1 : src.view.WordExact} {h2 : dst.view.WordExact}
    (ho : opP (F := F) d o = Prog.lift (.waitDma2 (semOf b k) src dst h1 h2))
    (hn : need o = needW b k) (hg : give o = giveW b k ++ g) (hs : ∀ p, sent o p = p)
    (hN : dst.view.dmaCredit = N) (hm : ∀ x y, may o (x, y) = true → k < 64 ∧ ∃ c, lv (cell d b k) k ≤ c ∧ c < 2 * x + 1 ∧ c < 2 * y + 2)
    (hp : pay m d k b ⊢ (items m d g : sProp 𝕄)) : OpSpec m K d o := by
  intro x y l Q h
  obtain ⟨hk, c, hl, hx, hy⟩ := hm x y h
  rw [hn, hg, hs]
  simp only [runP, ho, Prog.lift, Prog.bind_op, Prog.bind_ret, items, needW, giveW, List.cons_append, List.nil_append, Res]
  iintro ⟨#HC, Harg, HO, Hc, Hp, -⟩ Hk
  iapply (fam_wait m K d b k x y c hk hl hx hy hN) $$ [HO Hc Hp]
  · isplitr; · iexact HC
    isplitl [HO]; · iexact HO
    isplitl [Hc] <;> iassumption
  iintro ⟨HO, Hp, Hr, Hpay⟩
  iapply Hk
  isplitl [Harg]; · iexact Harg
  isplitl [HO]; · iexact HO
  isplitl [Hp]; · iexact Hp
  isplitl [Hr]; · iexact Hr
  iapply hp $$ Hpay

/-- A local wait is allowed whatever is owed. -/
theorem local_ok (d : Dev nD) (b : Fam) (k : ℕ) (hb : b ≠ .xr ∧ b ≠ .yr) (x y : ℕ) (h : decide (k < 64) = true) :
    k < 64 ∧ ∃ c, lv (cell d b k) k ≤ c ∧ c < 2 * x + 1 ∧ c < 2 * y + 2 := by
  refine ⟨of_decide_eq_true h, 0, ?_, by omega, by omega⟩
  rw [lv_fam]
  cases b <;> first | exact le_rfl | exact absurd rfl hb.1 | exact absurd rfl hb.2

/-- The x-peer's columns are in. -/
theorem op_srcW (d : Dev nD) (k : ℕ) : OpSpec m K d (.srcW k) :=
  op_wait m K d (.srcW k) .sr k [(.sD, k)] rfl rfl rfl (fun _ => rfl) rfl (fun x y h => local_ok d .sr k (by decide) x y h) (by
    simp only [items, pay, Res]
    iintro H; isplitl [H]; · iexact H
    iempintro)
/-- The device's own rows are in. -/
theorem op_inW (d : Dev nD) (k : ℕ) : OpSpec m K d (.inW k) :=
  op_wait m K d (.inW k) .lo k [(.lD, k)] rfl rfl rfl (fun _ => rfl) rfl (fun x y h => local_ok d .lo k (by decide) x y h) (by
    simp only [items, pay, Res]
    iintro H; isplitl [H]; · iexact H
    iempintro)
/-- The copy to the x-peer has left. -/
theorem op_xsW (d : Dev nD) (k : ℕ) : OpSpec m K d (.xsW k) :=
  op_wait m K d (.xsW k) .xs k [(.sF, k + 4)] rfl rfl rfl (fun _ => rfl) rfl (fun x y h => local_ok d .xs k (by decide) x y h) (by
    simp only [items, pay, Res]
    rw [slotV_add]
    iintro H; isplitl [H]; · iexact H
    iempintro)
/-- The copy to the y-peer has left. -/
theorem op_ysW (d : Dev nD) (k : ℕ) : OpSpec m K d (.ysW k) :=
  op_wait m K d (.ysW k) .ys k [(.aRF, k + 4)] rfl rfl rfl (fun _ => rfl) rfl (fun x y h => local_ok d .ys k (by decide) x y h) (by
    simp only [items, pay, Res]
    rw [slotV_add]
    iintro H; isplitl [H]; · iexact H
    iempintro)
/-- The sum is out in the device's own half. -/
theorem op_o1W (d : Dev nD) (k : ℕ) : OpSpec m K d (.o1W k) :=
  op_wait m K d (.o1W k) .o1 k [(.o1D, k), (.aLF, k + 4)] rfl rfl rfl (fun _ => rfl) rfl (fun x y h => local_ok d .o1 k (by decide) x y h) (by
    simp only [items, pay, Res]
    rw [slotV_add]
    iintro ⟨H, H'⟩
    isplitl [H]; · iexact H
    isplitl [H']; · iexact H'
    iempintro)
/-- The y-peer's sum is out in the other half. -/
theorem op_o2W (d : Dev nD) (k : ℕ) : OpSpec m K d (.o2W k) :=
  op_wait m K d (.o2W k) .o2 k [(.o2D, k), (.yF, k + 4)] rfl rfl rfl (fun _ => rfl) rfl (fun x y h => local_ok d .o2 k (by decide) x y h) (by
    simp only [items, pay, Res]
    rw [slotV_add]
    iintro ⟨H, H'⟩
    isplitl [H]; · iexact H
    isplitl [H']; · iexact H'
    iempintro)
/-- The x-peer's chunk has landed. -/
theorem op_xrW (d : Dev nD) (k : ℕ) : OpSpec m K d (.xrW k) :=
  op_wait m K d (.xrW k) .xr k [(.xD, k), (.hX, k + 2)] rfl rfl rfl (fun _ => rfl) rfl (fun x y h => by
    obtain ⟨h1, h2, h3⟩ : k < 64 ∧ k < x ∧ k ≤ y := of_decide_eq_true h
    exact ⟨h1, 2 * k + 1, le_of_eq (lv_fam d .xr k k), by omega, by omega⟩) (by
    simp only [items, pay, Res]
    iintro ⟨H, H'⟩
    isplitl [H]; · iexact H
    isplitl [H']; · iexact H'
    iempintro)
/-- The y-peer's sum has landed. -/
theorem op_yrW (d : Dev nD) (k : ℕ) : OpSpec m K d (.yrW k) :=
  op_wait m K d (.yrW k) .yr k [(.yD, k), (.hY, k + 2)] rfl rfl rfl (fun _ => rfl) rfl (fun x y h => by
    obtain ⟨h1, h2, h3⟩ : k < 64 ∧ k + 1 ≤ x ∧ k < y := of_decide_eq_true h
    exact ⟨h1, 2 * k + 2, le_of_eq (lv_fam d .yr k k), by omega, by omega⟩) (by
    simp only [items, pay, Res]
    iintro ⟨H, H'⟩
    isplitl [H]; · iexact H
    isplitl [H']; · iexact H'
    iempintro)

/-- What a copy to the x-peer hands over besides: the device's own slot of the chunk two further on. -/
theorem hand_x (d : Dev nD) (k : ℕ) :
    items m d (if k + 2 < 64 then [(.xF, k + 2), (.R .xr, k + 2)] else []) ⊢ (handX d (k + 2) : sProp 𝕄) := by
  unfold handX
  split
  · simp only [items, Res]
    iintro ⟨H, H', -⟩
    isplitl [H] <;> iassumption
  · simp only [items]; iintro H; iexact H
/-- What a copy to the y-peer hands over besides. -/
theorem hand_y (d : Dev nD) (k : ℕ) :
    items m d (if k + 2 < 64 then [(.yF, k + 2), (.R .yr, k + 2)] else []) ⊢ (handY d (k + 2) : sProp 𝕄) := by
  unfold handY
  split
  · simp only [items, Res]
    iintro ⟨H, H', -⟩
    isplitl [H] <;> iassumption
  · simp only [items]; iintro H; iexact H

/-- The chunk starts to the x-peer. -/
theorem op_xS (d : Dev nD) (k : ℕ) : OpSpec m K d (.xS k) := by
  intro x y l Q h
  obtain ⟨hk, rfl⟩ : k < 64 ∧ k = x := of_decide_eq_true h
  simp only [runP, opP, Prog.lift, Prog.bind_op, Prog.bind_ret, items, need, give, Res, tgt, sent, List.cons_append, List.nil_append]
  iintro ⟨#HC, Harg, HO, Ht, Hr, Ht', Hs, Hh, Hx⟩ Hk
  ihave Hg := (hand_x m d k) $$ Hx
  ihave Hh := (Entails.of_eq (show (handX (xp d) k : sProp 𝕄) = iprop(vAny (slotV rxM k) (xp d) fullShare ∗ reaP (xp d) .xr k) by unfold handX; rw [if_pos hk])) $$ Hh
  iapply (fam_send m K d (xp d) _ .xs .xr k k y (k + 1) y hk (dev3_eq d) (src := slotV sendM k) (dst := slotV rxM k) rfl fullShare (Sx m d k) (handX d (k + 2))
    (Owe_x d k y hk) (vHas_any _ _ _ _)
    (by show _ ⊢ iprop(vHas (slotV rxM k) (xp d) fullShare (Sx m (xp (xp d)) k) ∗ handX (xp (xp d)) (k + 2)); rw [xp_xp])) $$ [Hs Hh Hg HO Ht Hr Ht']
  · isplitr; · iexact HC
    isplitl [Hs]; · iexact Hs
    isplitl [Hh]; · iexact Hh
    isplitl [Hg]; · iexact Hg
    isplitl [HO]; · iexact HO
    isplitl [Ht]; · iexact Ht
    isplitl [Hr] <;> iassumption
  iintro ⟨Hc, HO⟩
  iapply Hk
  isplitl [Harg]; · iexact Harg
  isplitl [HO]; · iexact HO
  isplitl [Hc]; · iexact Hc
  iempintro

/-- The sum starts to the y-peer. -/
theorem op_yS (d : Dev nD) (k : ℕ) : OpSpec m K d (.yS k) := by
  intro x y l Q h
  obtain ⟨hk, rfl⟩ : k < 64 ∧ k = y := of_decide_eq_true h
  simp only [runP, opP, Prog.lift, Prog.bind_op, Prog.bind_ret, items, need, give, Res, tgt, sent, List.cons_append, List.nil_append]
  iintro ⟨#HC, Harg, HO, Ht, Hr, Ht', Hs, Hh, Hx⟩ Hk
  ihave Hg := (hand_y m d k) $$ Hx
  ihave Hh := (Entails.of_eq (show (handY (yp d) k : sProp 𝕄) = iprop(vAny (slotV ryM k) (yp d) fullShare ∗ reaP (yp d) .yr k) by unfold handY; rw [if_pos hk])) $$ Hh
  iapply (fam_send m K d (yp d) _ .ys .yr k x k x (k + 1) hk (dev5_eq d) (src := slotV redM k) (dst := slotV ryM k) rfl qR (Red m d k) (handY d (k + 2))
    (Owe_y d x k hk) (vHas_any _ _ _ _)
    (by show _ ⊢ iprop(vHas (slotV ryM k) (yp d) fullShare (Red m (yp (yp d)) k) ∗ handY (yp (yp d)) (k + 2)); rw [yp_yp])) $$ [Hs Hh Hg HO Ht Hr Ht']
  · isplitr; · iexact HC
    isplitl [Hs]; · iexact Hs
    isplitl [Hh]; · iexact Hh
    isplitl [Hg]; · iexact Hg
    isplitl [HO]; · iexact HO
    isplitl [Ht]; · iexact Ht
    isplitl [Hr] <;> iassumption
  iintro ⟨Hc, HO⟩
  iapply Hk
  isplitl [Harg]; · iexact Harg
  isplitl [HO]; · iexact HO
  isplitl [Hc]; · iexact Hc
  iempintro

end Cert.KProof
-- ==== Proof.Ops.lean ====
/-
# The addition of a chunk

The one step that computes: two loads, a sum and a store, and with it every kind of operation of the list (`op_spec`).
-/
module

public import proofs.«01_k».proof.Proof.Steps
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × SemLoc sig → ℕ)

/-! # The addition of a chunk, and any operation of the run -/

omit [FloatOps F] in
/-- A slot's elements are the elements of its rectangle. -/
theorem slot_set (b : Memref sig .tc .vmem S4x128x1024 .f32) (k : ℕ) :
    (slotV b k).view.set = (b.access (slotR k)).set := View.set_reshape _ _

omit [FloatOps F] in
/-- A load at a slot's rectangle stays in the slot. -/
theorem slot_load (b : Memref sig .tc .vmem S4x128x1024 .f32) (k : ℕ) :
    b.view.setOn (slotR k).toLoadRect.set ⊆ (slotV b k).view.set := by
  rw [slot_set, View.set_slice]; exact subset_rfl

/-- What a slot reads after the sum of two slots is stored to it. -/
theorem read_sum (k : ℕ)
    (g : redM.view.ty.Contents (Elt F)) (a b : Vec F S1x128x1024 .f32) :
    (slotV redM k).view.read (Elt F) ((redM.access (slotR k)).write (Elt F) g (sumPay a b) Finset.univ)
      = addf (φ := .f32) (shapeCast S128x1024 a shapeCasts_S1x128x1024_S128x1024) (shapeCast S128x1024 b shapeCasts_S1x128x1024_S128x1024) := by
  show shapeCast S128x1024 ((redM.access (slotR k)).read (Elt F) ((redM.access (slotR k)).write (Elt F) g (sumPay a b) Finset.univ)) shapeCasts_S1x128x1024_S128x1024 = _
  rw [View.read_write_univ]
  exact shapeCast_shapeCast _ _ _

/-- The chunk's sum is formed: the two summands' slots are free again, the sum is in its slot. -/
theorem op_add (d : Dev nD) (k : ℕ) : OpSpec m K d (.add k) := by
  intro x y l Q h
  simp only [runP, opP, Prog.lift, Prog.bind_op, Prog.bind_ret, items, need, give, Res, sent]
  rw [slotV_add, slotV_add]
  unfold vHas vAny
  iintro ⟨#HC, Harg, HO, ⟨%f₁, %h₁, H1⟩, ⟨%f₂, %h₂, H2⟩, ⟨%f₃, H3⟩, ⟨%f₄, H4⟩, -⟩ Hk
  iapply (wp_load 𝒱₀ (d : Thread nD τ) none Set.univ (m := locM) (slot_load locM k)) $$ H1
  iintro H1
  iapply (wp_load 𝒱₀ (d : Thread nD τ) none Set.univ (m := rxM) (slot_load rxM k)) $$ H2
  iintro H2
  iapply (wp_load 𝒱₀ (d : Thread nD τ) none Set.univ (m := redM) (slot_load redM k)) $$ H3
  iintro H3
  ihave %hag := pointsTo_agree $$ [H3 H4]
  · isplitl [H3] <;> iassumption
  ihave H4 := (Entails.of_eq (pointsTo_congr (g := f₃) fun i hi => ((hag i (Finset.mem_inter.mpr ⟨hi, hi⟩)).1).symm)) $$ H4
  ihave H := ((pointsTo_share (PosShare.mem_left_op_right fullShare)).2) $$ [H3 H4]
  · isplitl [H3] <;> iassumption
  iapply (wp_store 𝒱₀ (d : Thread nD τ) none Set.univ (m := redM) (r := slotR k) (Mk := Finset.univ) (by rw [slot_set]; exact subset_rfl)) $$ H
  iintro H
  ihave H := ((pointsTo_share (PosShare.mem_left_op_right fullShare)).1) $$ H
  icases H with ⟨H3, H4⟩
  iapply Hk
  isplitl [Harg]; · iexact Harg
  isplitl [HO]; · iexact HO
  isplitl [H1]; · iexists _; iexact H1
  isplitl [H2]; · iexists _; iexact H2
  have e : (slotV redM k).view.read (Elt F) ((redM.access (slotR k)).write (Elt F) f₃
      (sumPay (locM.view.readAt (Elt F) (slotR k).toLoadRect f₁) (rxM.view.readAt (Elt F) (slotR k).toLoadRect f₂)) Finset.univ) = Red m d k := by
    rw [read_sum]; unfold Red; rw [← h₁, ← h₂]; rfl
  isplitl [H3]
  · iexists _; isplitr
    · ipureintro; exact e
    iexact H3
  isplitl [H4]
  · iexists _; isplitr
    · ipureintro; exact e
    iexact H4
  iempintro

/-- Every operation the table runs. -/
theorem op_spec (d : Dev nD) : (o : Op) → OpSpec m K d o
  | .sigX => fun _ _ _ _ h => Bool.noConfusion h
  | .sigY => fun _ _ _ _ h => Bool.noConfusion h
  | .barW => fun _ _ _ _ h => Bool.noConfusion h
  | .srcS k => op_srcS m K d k
  | .srcW k => op_srcW m K d k
  | .inS k => op_inS m K d k
  | .inW k => op_inW m K d k
  | .xS k => op_xS m K d k
  | .xsW k => op_xsW m K d k
  | .xrW k => op_xrW m K d k
  | .add k => op_add m K d k
  | .o1S k => op_o1S m K d k
  | .o1W k => op_o1W m K d k
  | .yS k => op_yS m K d k
  | .ysW k => op_ysW m K d k
  | .yrW k => op_yrW m K d k
  | .o2S k => op_o2S m K d k
  | .o2W k => op_o2W m K d k

end Cert.KProof

end
-- ==== Proof.Run.lean ====
/-
# The walk down the list

`wp_run`: a list of operations that the table follows runs from the table before to the table after. `wp_barrier`: the
handshake before the first of them.
-/
module

public import proofs.«01_k».proof.Proof.Ops

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × SemLoc sig → ℕ)

/-! # The body's run on one device -/

/-- The operations of a list, followed through the table: from the table before to the table after. -/
theorem wp_run (d : Dev nD) (Q : PUnit → sProp 𝕄) : ∀ (l : List Op) (p p' : ℕ × ℕ) (t t' : Tab), runT l p t = some (t', p') →
    iprop(Ctx m K ∗ argP m d ∗ oweP d p.1 p.2 ∗ tab m d t)
      ⊢ iprop(((argP m d ∗ oweP d p'.1 p'.2 ∗ tab m d t') -∗ |={Set.univ}=> Q ⟨⟩) -∗ wpD d (runP d l) Q)
  | [], p, p', t, t', h => by
    obtain ⟨rfl, rfl⟩ : t = t' ∧ p = p' := by
      have := Option.some.inj h
      exact ⟨congrArg Prod.fst this, congrArg Prod.snd this⟩
    unfold wpD
    rw [show (runP d [] : TP F) = Prog.ret ⟨⟩ from rfl, wp_ret]
    iintro ⟨-, H⟩ Hk
    iapply Hk $$ H
  | o :: l, p, p', t, t', h => by
    unfold runT at h
    split at h
    · next hm =>
      obtain ⟨t₂, h₁, h₃⟩ := Option.bind_eq_some_iff.mp h
      obtain ⟨t₁, h₁, h₂⟩ := Option.bind_eq_some_iff.mp h₁
      have ih := wp_run d Q l (sent o p) p' t₂ t' h₃
      iintro ⟨#HC, Harg, HO, Ht⟩ Hk
      ihave H := (takes_sound m d (need o) t t₁ h₁) $$ Ht
      icases H with ⟨Hi, Ht⟩
      iapply (op_spec m K d o p.1 p.2 l Q hm) $$ [Harg HO Hi]
      · isplitr; · iexact HC
        isplitl [Harg]; · iexact Harg
        isplitl [HO] <;> iassumption
      iintro ⟨Harg, HO, Hi⟩
      iapply ih $$ [Harg HO Hi Ht]
      · isplitr; · iexact HC
        isplitl [Harg]; · iexact Harg
        isplitl [HO]; · iexact HO
        iapply (puts_sound m d (give o) t₁ t₂ h₂)
        isplitl [Hi] <;> iassumption
      iexact Hk
    · cases h

/-- What a device owes at the launch: all its copies to its peers, a unit of each peer's barrier. -/
def O₁ (d : Dev nD) : CellTallies nD τ sig ℕ := Owe d 0 0 + tallyAt (barCell (yp d)) 0 1
/-- The same and the first signal's unit. -/
def O₀ (d : Dev nD) : CellTallies nD τ sig ℕ := O₁ d + tallyAt (barCell (xp d)) 0 1

/-- What a device takes into the barrier. -/
def barIn (d : Dev nD) : sProp 𝕄 :=
  iprop(dutyTok ER (barCell (xp d)) 0 false ∗ dutyTok ER (barCell (yp d)) 0 true
    ∗ reached ER (barCell (xp d)) 0 ∗ reached ER (barCell (yp d)) 0
    ∗ cred (tallyAt (barCell d) 0 2) ∗ atPos ER (barCell d) 0 ∅ 0
    ∗ (handX d 0 ∗ handX d 1) ∗ (handY d 0 ∗ handY d 1))

/-- What it has after: its position past the barrier's round, and the right to write two slots of each peer. -/
def barOut (d : Dev nD) : sProp 𝕄 :=
  iprop(atPos ER (barCell d) 1 ∅ 0 ∗ (handX (xp d) 0 ∗ handX (xp d) 1) ∗ (handY (yp d) 0 ∗ handY (yp d) 1))

/-- The barrier: a unit to each peer with the right to write two of the device's slots, and the wait for both peers'. -/
theorem wp_barrier (d : Dev nD) (l : List Op) (Q : PUnit → sProp 𝕄) :
    iprop(Ctx m K ∗ (∃ W : Waits sig ℕ, owes (d : Thread nD τ) (O₀ d) W) ∗ barIn d)
      ⊢ iprop(((oweP d 0 0 ∗ barOut d) -∗ wpD d (runP d l) Q) -∗ wpD d (runP d (.sigX :: .sigY :: .barW :: l)) Q) := by
  simp only [runP, opP, semSignalWord, semWaitWord, Prog.bind_op, Prog.bind_ret, dev1_eq, dev2_eq]
  unfold barIn barOut oweP
  iintro ⟨#HC, ⟨%W, HO⟩, Ht1, Ht2, #Hr1, #Hr2, Hc, Hat, Hx, Hy⟩ Hk
  iapply (Rounds.wp_signal 𝒱₀ ER (sched m) (d : Thread nD τ) none (dst := (xp d : Thread nD τ)) (κ := K (xp d, .reg barS))
      (d := false) (by rw [duties_bar]; exact Finset.mem_univ _) ((amount_bar m (xp d) false).trans (by decide)) 0 (O₁ d) rfl) $$ [HO Ht1 Hx]
  · isplitr; · iapply (ctx_inv m K (xp d) (.reg barS)) $$ HC
    isplitl [HO]; · iexact HO
    isplitl [Ht1]; · iexact Ht1
    isplitl [Hx]
    · rw [payload_bar]; unfold barPay; rw [xp_xp]; iexact Hx
    iexact Hr1
  iintro HO
  iapply (Rounds.wp_signal 𝒱₀ ER (sched m) (d : Thread nD τ) none (dst := (yp d : Thread nD τ)) (κ := K (yp d, .reg barS))
      (d := true) (by rw [duties_bar]; exact Finset.mem_univ _) ((amount_bar m (yp d) true).trans (by decide)) 0 (Owe d 0 0) rfl) $$ [HO Ht2 Hy]
  · isplitr; · iapply (ctx_inv m K (yp d) (.reg barS)) $$ HC
    isplitl [HO]; · iexact HO
    isplitl [Ht2]; · iexact Ht2
    isplitl [Hy]
    · rw [payload_bar]; unfold barPay; rw [yp_yp]; iexact Hy
    iexact Hr2
  iintro HO
  iapply (Rounds.wp_wait_rest_token 𝒱₀ ER (sched m) (d : Thread nD τ) none (κ := K (d, .reg barS))
      (wpE_semWait_eq 𝒱₀ (d : Thread nD τ) none Set.univ) (Set.mem_univ _) 0 (O := Owe d 0 0) (W := W) (R := 0) (m := 0) (T := ∅)
      (by rw [expect_bar]; decide)) $$ [Hc HO Hat]
  · isplitr; · iapply (ctx_inv m K d (.reg barS)) $$ HC
    isplitl [Hc]; · iexact Hc
    isplitl [HO]; · iexact HO
    isplitr
    · iapply (mayWait d (.reg barS) 0 0 0 0 (by decide) (le_of_eq rfl) (by decide) (by decide)); iapply (ctx_lev m K); iexact HC
    iexact Hat
  iintro ⟨HO, Hat, -, Hpay⟩
  ihave Hp := (Entails.of_eq (rest_bar m d)) $$ Hpay
  unfold barPay
  icases Hp with ⟨Hx, Hy⟩
  iapply Hk
  isplitl [HO]; · iexists _; iexact HO
  isplitl [Hat]; · iexact Hat
  isplitl [Hx] <;> iassumption

end Cert.KProof

end
-- ==== Proof.Geom.lean ====
/-
# Pieces of the buffers

A buffer as its four slots, the result as its 128 chunks of rows, and separating conjunctions cut and joined accordingly.
`IsOut` says what a finished result holds, and `out_join` that the chunks, each at its sum, are such a result.
-/
module

public import proofs.«01_k».proof.Proof.Steps
public import Idealize.ShloMosaic.Lib.Ring
public import Idealize.ShloMosaic.Lib.ViewIndex

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! # The buffers in pieces -/

omit [FloatOps F] in
/-- A separating conjunction over disjoint parts is the parts' conjunctions. -/
theorem bigSep_parts {I J : Type} [DecidableEq I] [DecidableEq J] (s : Finset J) (t : J → Finset I) (Φ : I → sProp 𝕄)
    (h : ∀ j ∈ s, ∀ j' ∈ s, j ≠ j' → Disjoint (t j) (t j')) : bigSep (s.biUnion t) Φ = bigSep s fun j => bigSep (t j) Φ := by
  induction s using Finset.induction_on with
  | empty => rfl
  | insert j s hj ih =>
    rw [Finset.biUnion_insert, bigSep_insert hj, bigSep_union, ih fun a ha b hb => h a (Finset.mem_insert_of_mem ha) b (Finset.mem_insert_of_mem hb)]
    rw [Finset.disjoint_biUnion_right]
    exact fun a ha => h j (Finset.mem_insert_self _ _) a (Finset.mem_insert_of_mem ha) fun e => hj (e ▸ ha)

omit [FloatOps F] in
/-- Over as many consecutive numbers as a family's period, wherever they start. -/
theorem bigSep_period {A : ℕ → sProp 𝕄} {B : ℕ} (h : ∀ k, A (k + B) = A k) (n : ℕ) : bigSep (Finset.Ico n (n + B)) A = bigSep (Finset.range B) A := by
  induction n with
  | zero => rw [Nat.zero_add, Finset.range_eq_Ico]
  | succ n ih =>
    rw [← ih]
    cases B with
    | zero => rw [Nat.add_zero, Finset.Ico_self]; exact (congrArg (bigSep · A) (Finset.Ico_self n)).symm
    | succ B =>
      have e1 : Finset.Ico n (n + (B + 1)) = insert n (Finset.Ico (n + 1) (n + (B + 1))) := by ext i; simp only [Finset.mem_Ico, Finset.mem_insert]; omega
      have e2 : Finset.Ico (n + 1) (n + 1 + (B + 1)) = insert (n + (B + 1)) (Finset.Ico (n + 1) (n + (B + 1))) := by ext i; simp only [Finset.mem_Ico, Finset.mem_insert]; omega
      rw [e1, e2, bigSep_insert (by simp), bigSep_insert (by simp), h]

omit [FloatOps F] in
/-- Over the DMA semaphores: over the families, each family's in turn. -/
theorem bigSep_sems (Φ : DmaSem sig → sProp 𝕄) :
    bigSep Finset.univ Φ = bigSep Finset.univ fun b : Fam => bigSep (Finset.range (win b)) fun n => Φ (semOf b n) := by
  have h1 : (Finset.univ : Finset (DmaSem sig)) = (Finset.univ : Finset Fam).biUnion fun b => (Finset.range (win b)).biUnion fun n => {semOf b n} := by
    decide
  rw [h1, bigSep_parts]
  · refine bigSep_congr fun b _ => ?_
    rw [bigSep_parts]
    · exact bigSep_congr fun n _ => bigSep_singleton
    · intro n hn n' hn' hne
      rw [Finset.disjoint_singleton]
      intro e
      have e' : base b + n % win b = base b + n' % win b := congrArg Fin.val e
      rw [Nat.mod_eq_of_lt (Finset.mem_range.mp hn), Nat.mod_eq_of_lt (Finset.mem_range.mp hn')] at e'
      omega
  · intro b _ b' _ hne
    rw [Finset.disjoint_left]
    intro q hq hq'
    obtain ⟨n, -, hn⟩ := Finset.mem_biUnion.mp hq
    obtain ⟨n', -, hn'⟩ := Finset.mem_biUnion.mp hq'
    rw [Finset.mem_singleton] at hn hn'
    exact hne (by rw [← famOf_semOf b n, ← famOf_semOf b' n', ← hn, ← hn'])

omit [FloatOps F] in
/-- The same from any chunk on. -/
theorem bigSep_sems_from (s : ℕ) (Φ : DmaSem sig → sProp 𝕄) :
    bigSep Finset.univ Φ = bigSep Finset.univ fun b : Fam => bigSep (Finset.Ico s (s + win b)) fun n => Φ (semOf b n) := by
  rw [bigSep_sems]
  exact bigSep_congr fun b _ => (bigSep_period (fun k => by rw [semOf_succ]) s).symm

omit [FloatOps F] in
/-- Over all semaphores: the barrier's and the DMA semaphores. -/
theorem bigSep_semLocs (Φ : SemLoc sig → sProp 𝕄) :
    bigSep Finset.univ Φ = iprop(Φ (.reg barS) ∗ bigSep Finset.univ fun q : DmaSem sig => Φ (.dma q)) := by
  have h1 : (Finset.univ : Finset (SemLoc sig)) = insert (.reg barS) (Finset.univ.map ⟨SemLoc.dma, fun a b h => by cases h; rfl⟩) := by
    decide
  rw [h1, bigSep_insert (by decide), bigSep_map]
  rfl

omit [FloatOps F] in
/-- Chunks as numbers and as indices. -/
theorem bigSep_chunks (Φ : ℕ → sProp 𝕄) : bigSep (Finset.Ico 0 64) Φ = bigSep Finset.univ fun k : Fin 64 => Φ k.val := by
  have h : Finset.Ico 0 64 = (Finset.univ : Finset (Fin 64)).map Fin.valEmbedding := by decide
  rw [h, bigSep_map]; rfl

/-! ## Slots -/

omit [FloatOps F] in
/-- A piece held at some contents. -/
theorem any_of {sp : Space} (V : Memref sig .tc sp S128x1024 .f32) (d : Dev nD) (q : PosShare TreeShare) (f : Buf (Elt F) (V.view.loc (d : Thread nD τ))) :
    (V.view.loc (d : Thread nD τ) ↦[V.view.set]{q} f : sProp 𝕄) ⊢ vAny V d q := by
  unfold vAny; iintro H; iexists f; iexact H

/-- The elements of a buffer's slot. -/
def slotSet (b : Memref sig .tc .vmem S4x128x1024 .f32) (i : Fin 4) : Finset b.view.ty.Idx := (slotM b i).view.set

/-- The slots of a buffer share no element. -/
theorem slots_disjoint (b : Memref sig .tc .vmem S4x128x1024 .f32) (i j : Fin 4) (h : i ≠ j) :
    Disjoint (slotSet b i) (slotSet b j) := by
  unfold slotSet
  have e : ∀ i, (slotM b i).view.set = (b.view.slice (slotRect i)).set := fun i => View.set_reshape _ _
  rw [e, e]
  refine View.disjoint_slice ?_
  rw [Finset.disjoint_left]
  intro x hx hx'
  have h1 := Rect.mem_set_unit.mp hx 0
  have h2 := Rect.mem_set_unit.mp hx' 0
  have a1 : i.val ≤ (x 0).val ∧ (x 0).val < i.val + 1 := h1
  have a2 : j.val ≤ (x 0).val ∧ (x 0).val < j.val + 1 := h2
  exact h (Fin.ext (by omega))

/-- The slots of a whole buffer are all of it. -/
theorem slots_cover (b : Memref sig .tc .vmem S4x128x1024 .f32) (hb : b.view.set = Finset.univ) :
    (Finset.univ.biUnion (slotSet b)) = Finset.univ := by
  have e : ∀ i, (slotM b i).view.set = (b.view.slice (slotRect i)).set := fun i => View.set_reshape _ _
  refine Finset.eq_univ_of_forall fun y => ?_
  have hy : y ∈ b.view.set := by rw [hb]; exact Finset.mem_univ _
  obtain ⟨x, -, rfl⟩ := Finset.mem_map.mp hy
  refine Finset.mem_biUnion.mpr ⟨⟨(x 0).val, (x 0).isLt⟩, Finset.mem_univ _, ?_⟩
  unfold slotSet
  rw [e, View.set_slice]
  refine Finset.mem_map_of_mem _ (Rect.mem_set_unit.mpr fun a => ?_)
  match a with
  | ⟨0, _⟩ => exact ⟨le_rfl, Nat.lt_succ_self _⟩
  | ⟨1, _⟩ => exact ⟨Nat.zero_le _, by show _ < 0 + 128; rw [Nat.zero_add]; exact (x 1).isLt⟩
  | ⟨2, _⟩ => exact ⟨Nat.zero_le _, by show _ < 0 + 1024; rw [Nat.zero_add]; exact (x 2).isLt⟩

omit [FloatOps F] in
/-- Four chunks' slots in a row are the four slots. -/
theorem slots_from (b : Memref sig .tc .vmem S4x128x1024 .f32) (d : Dev nD) (q : PosShare TreeShare) (s : ℕ) :
    bigSep (Finset.Ico s (s + 4)) (fun n => vAny (F := F) (slotV b n) d q) = bigSep Finset.univ fun i : Fin 4 => vAny (slotM b i) d q := by
  rw [bigSep_period (fun k => by rw [slotV_add]) s]
  have h : Finset.range 4 = (Finset.univ : Finset (Fin 4)).map Fin.valEmbedding := by decide
  rw [h, bigSep_map]
  refine bigSep_congr fun i _ => ?_
  have : slotOf i.val = i := Fin.ext (Nat.mod_eq_of_lt i.isLt)
  show vAny (slotM b (slotOf i.val)) d q = _
  rw [this]

omit [FloatOps F] in
/-- A buffer held whole is four chunks' slots. -/
theorem slots_split (b : Memref sig .tc .vmem S4x128x1024 .f32) (hb : b.view.set = Finset.univ) (d : Dev nD) (s : ℕ) :
    iprop(∃ f : Buf (Elt F) (b.view.loc (d : Thread nD τ)), b.view.loc (d : Thread nD τ) ↦{fullShare} f)
      ⊢ (bigSep (Finset.Ico s (s + 4)) (fun n => vAny (slotV b n) d fullShare) : sProp 𝕄) := by
  rw [slots_from]
  iintro ⟨%f, H⟩
  ihave H := (Entails.of_eq (Ring.pointsTo_blocks (ℓ := b.view.loc (d : Thread nD τ)) (slotSet b) (slots_disjoint b) (slots_cover b hb) f)) $$ H
  have h : (bigSep Finset.univ fun i : Fin 4 => (b.view.loc (d : Thread nD τ) ↦[slotSet b i]{fullShare} f : sProp 𝕄))
      ⊢ bigSep Finset.univ fun i : Fin 4 => vAny (slotM b i) d fullShare :=
    bigSep_mono fun i _ => any_of (slotM b i) d fullShare f
  iapply h $$ H

omit [FloatOps F] in
/-- Four chunks' slots are the buffer held whole. -/
theorem slots_join (b : Memref sig .tc .vmem S4x128x1024 .f32) (hb : b.view.set = Finset.univ) (d : Dev nD) (s : ℕ)
    (f₀ : Buf (Elt F) (b.view.loc (d : Thread nD τ))) :
    (bigSep (Finset.Ico s (s + 4)) (fun n => vAny (slotV b n) d fullShare) : sProp 𝕄)
      ⊢ iprop(∃ f : Buf (Elt F) (b.view.loc (d : Thread nD τ)), b.view.loc (d : Thread nD τ) ↦{fullShare} f) := by
  rw [slots_from]
  exact Ring.pointsTo_blocks_join_exists (ℓ := b.view.loc (d : Thread nD τ)) (slotSet b) (slots_disjoint b) (slots_cover b hb) f₀

omit [FloatOps F] in
/-- A piece in two half shares. -/
theorem any_halves {sp : Space} (V : Memref sig .tc sp S128x1024 .f32) (d : Dev nD) :
    vAny V d fullShare ⊢ (iprop(vAny V d qL ∗ vAny V d qR) : sProp 𝕄) := by
  unfold vAny
  iintro ⟨%f, H⟩
  ihave H := (pointsTo_share (PosShare.mem_left_op_right fullShare)).1 $$ H
  icases H with ⟨H, H'⟩
  isplitl [H] <;> (iexists f; iassumption)

omit [FloatOps F] in
/-- Two half shares of a piece. -/
theorem any_whole {sp : Space} (V : Memref sig .tc sp S128x1024 .f32) (d : Dev nD) :
    iprop(vAny V d qL ∗ vAny V d qR) ⊢ (vAny V d fullShare : sProp 𝕄) := by
  unfold vAny
  iintro ⟨⟨%f, H⟩, ⟨%g, H'⟩⟩
  ihave %hag := pointsTo_agree $$ [H H']
  · isplitl [H] <;> iassumption
  ihave H' := (Entails.of_eq (pointsTo_congr (g := f) fun i hi => ((hag i (Finset.mem_inter.mpr ⟨hi, hi⟩)).1).symm)) $$ H'
  iexists f
  iapply (pointsTo_share (PosShare.mem_left_op_right fullShare)).2
  isplitl [H] <;> iassumption

omit [FloatOps F] in
/-- Facts held with the members of a family are held of all of them. -/
theorem bigSep_pure_sep {T : Type} [Fintype T] (R : T → Prop) (Φ : T → sProp 𝕄) :
    (bigSep Finset.univ fun t => iprop(⌜R t⌝ ∗ Φ t)) ⊢ (iprop(⌜∀ t, R t⌝ ∗ bigSep Finset.univ Φ) : sProp 𝕄) := by
  classical
  have h : ∀ s : Finset T, (bigSep s fun t => iprop(⌜R t⌝ ∗ Φ t)) ⊢ (iprop(⌜∀ t ∈ s, R t⌝ ∗ bigSep s Φ) : sProp 𝕄) := by
    intro s
    induction s using Finset.induction_on with
    | empty =>
      iintro H; isplitr
      · ipureintro; exact fun t ht => absurd ht (Finset.notMem_empty t)
      iexact H
    | insert t s ht ih =>
      rw [bigSep_insert ht, bigSep_insert ht]
      show iprop((⌜R t⌝ ∗ Φ t) ∗ bigSep s fun t => iprop(⌜R t⌝ ∗ Φ t)) ⊢ (iprop(⌜∀ t' ∈ insert t s, R t'⌝ ∗ Φ t ∗ bigSep s Φ) : sProp 𝕄)
      iintro ⟨⟨%h, H⟩, Hs⟩
      ihave Hs := ih $$ Hs
      icases Hs with ⟨%hs, Hs⟩
      isplitr
      · ipureintro
        intro t' ht'
        rcases Finset.mem_insert.mp ht' with rfl | h'
        · exact h
        · exact hs t' h'
      isplitl [H] <;> iassumption
  refine (h Finset.univ).trans ?_
  iintro ⟨%h, H⟩
  isplitr; · ipureintro; exact fun t => h t (Finset.mem_univ t)
  iexact H

/-! ## The result's rows -/

/-- The rows of a chunk of the device's own half. -/
theorem out1_mem (d : Dev nD) (k : Fin 64) (i : S16384x1024.Idx) :
    i ∈ (out1V d k).view.set ↔ 8192 * (d.val % 2) + 128 * k.val ≤ (i 0).val ∧ (i 0).val < 8192 * (d.val % 2) + 128 * k.val + 128 := by
  have e : (out1V d k).view.set = (Rect.unit (s := S16384x1024) (k0_off3 d (rowW k)) S128x1024.size (k0_off3_inb d k)).set := View.set_slice_whole _ _
  rw [e, Rect.mem_set_unit, k0_off3_eq]
  constructor
  · exact fun h => h 0
  · intro h a
    match a with
    | ⟨0, _⟩ => exact h
    | ⟨1, _⟩ => exact ⟨Nat.zero_le _, by show _ < 0 + 1024; rw [Nat.zero_add]; exact (i 1).isLt⟩

/-- The rows of a chunk of the other half. -/
theorem out2_mem (d : Dev nD) (k : Fin 64) (i : S16384x1024.Idx) :
    i ∈ (out2V d k).view.set ↔ 128 * k.val + 8192 - 8192 * (d.val % 2) ≤ (i 0).val ∧ (i 0).val < 128 * k.val + 8192 - 8192 * (d.val % 2) + 128 := by
  have e : (out2V d k).view.set = (Rect.unit (s := S16384x1024) (k0_off4 d (rowW k)) S128x1024.size (k0_off4_inb d k)).set := View.set_slice_whole _ _
  rw [e, Rect.mem_set_unit, k0_off4_eq]
  constructor
  · exact fun h => h 0
  · intro h a
    match a with
    | ⟨0, _⟩ => exact h
    | ⟨1, _⟩ => exact ⟨Nat.zero_le _, by show _ < 0 + 1024; rw [Nat.zero_add]; exact (i 1).isLt⟩

/-- The elements of the result's chunks, both halves. -/
def oSet (d : Dev nD) : Fin 64 ⊕ Fin 64 → Finset S16384x1024.Idx
  | .inl k => (out1V d k).view.set
  | .inr k => (out2V d k).view.set

/-- The chunks share no element. -/
theorem out_disjoint (d : Dev nD) (s t : Fin 64 ⊕ Fin 64) (h : s ≠ t) : Disjoint (oSet d s) (oSet d t) := by
  rw [Finset.disjoint_left]
  intro i hi hi'
  have hd := Nat.mod_lt d.val (show 0 < 2 by decide)
  match s, t with
  | .inl k, .inl k' =>
    have a := (out1_mem d k i).mp hi; have b := (out1_mem d k' i).mp hi'
    exact h (congrArg Sum.inl (Fin.ext (by omega)))
  | .inr k, .inr k' =>
    have a := (out2_mem d k i).mp hi; have b := (out2_mem d k' i).mp hi'
    exact h (congrArg Sum.inr (Fin.ext (by omega)))
  | .inl k, .inr k' =>
    have a := (out1_mem d k i).mp hi; have b := (out2_mem d k' i).mp hi'
    omega
  | .inr k, .inl k' =>
    have a := (out2_mem d k i).mp hi; have b := (out1_mem d k' i).mp hi'
    omega

/-- The chunks are the whole result. -/
theorem out_cover (d : Dev nD) : (Finset.univ.biUnion (oSet d)) = Finset.univ := by
  refine Finset.eq_univ_of_forall fun i => Finset.mem_biUnion.mpr ?_
  have hi : (i 0).val < 16384 := (i 0).isLt
  have hd := Nat.mod_lt d.val (show 0 < 2 by decide)
  by_cases h : 8192 * (d.val % 2) ≤ (i 0).val ∧ (i 0).val < 8192 * (d.val % 2) + 8192
  · have hk : ((i 0).val - 8192 * (d.val % 2)) / 128 < 64 := by omega
    refine ⟨.inl ⟨_, hk⟩, Finset.mem_univ _, (out1_mem d ⟨_, hk⟩ i).mpr ?_⟩
    constructor <;> dsimp only <;> omega
  · have hk : ((i 0).val - (8192 - 8192 * (d.val % 2))) / 128 < 64 := by omega
    refine ⟨.inr ⟨_, hk⟩, Finset.mem_univ _, (out2_mem d ⟨_, hk⟩ i).mpr ?_⟩
    constructor <;> dsimp only <;> omega

/-- A number below the number of chunks names its chunk. -/
theorem ch_val (k : Fin 64) : ch k.val = k := Fin.ext (Nat.mod_eq_of_lt k.isLt)

omit [FloatOps F] in
/-- The result held whole is its chunks. -/
theorem out_split (d : Dev nD) (f : Buf (Elt F) ((d : Thread nD τ).loc main_v1)) :
    (((d : Thread nD τ).loc main_v1) ↦{fullShare} f : sProp 𝕄)
      ⊢ iprop((bigSep (Finset.Ico 0 64) fun n => vAny (out1V d (ch n)) d fullShare) ∗ (bigSep (Finset.Ico 0 64) fun n => vAny (out2V d (ch n)) d fullShare)) := by
  rw [bigSep_chunks, bigSep_chunks, Ring.pointsTo_blocks (ℓ := (d : Thread nD τ).loc main_v1) (oSet d) (out_disjoint d) (out_cover d) f, bigSep_univ_sum]
  refine BI.sep_mono (bigSep_mono fun k _ => ?_) (bigSep_mono fun k _ => ?_)
  · rw [ch_val]; exact any_of (out1V d k) d fullShare f
  · rw [ch_val]; exact any_of (out2V d k) d fullShare f

/-- What a result holds, chunk by chunk: each chunk's sum in the device's own half, the y-peer's sum in the other. -/
def IsOut (d : Dev nD) (g : Buf (Elt F) ((d : Thread nD τ).loc main_v1)) : Prop :=
  (∀ k : Fin 64, (out1V d k).view.read (Elt F) g = Red m d k.val) ∧ ∀ k : Fin 64, (out2V d k).view.read (Elt F) g = Red m (yp d) k.val

/-- The chunks written are the result held whole, every chunk at its sum. -/
theorem out_join (d : Dev nD) (f₀ : Buf (Elt F) ((d : Thread nD τ).loc main_v1)) :
    iprop((bigSep (Finset.Ico 0 64) fun n => vHas (out1V d (ch n)) d fullShare (Red m d n)) ∗ (bigSep (Finset.Ico 0 64) fun n => vHas (out2V d (ch n)) d fullShare (Red m (yp d) n)))
      ⊢ (iprop(∃ g, ⌜IsOut m d g⌝ ∗ ((d : Thread nD τ).loc main_v1) ↦{fullShare} g) : sProp 𝕄) := by
  let R : Fin 64 ⊕ Fin 64 → Buf (Elt F) ((d : Thread nD τ).loc main_v1) → Prop := fun t f => match t with
    | .inl k => (out1V d k).view.read (Elt F) f = Red m d k.val
    | .inr k => (out2V d k).view.read (Elt F) f = Red m (yp d) k.val
  have h1 : iprop((bigSep (Finset.Ico 0 64) fun n => vHas (out1V d (ch n)) d fullShare (Red m d n)) ∗ (bigSep (Finset.Ico 0 64) fun n => vHas (out2V d (ch n)) d fullShare (Red m (yp d) n)))
      ⊢ (bigSep Finset.univ fun t => iprop(∃ f : Buf (Elt F) ((d : Thread nD τ).loc main_v1), ⌜R t f⌝ ∗ ((d : Thread nD τ).loc main_v1) ↦[oSet d t]{fullShare} f) : sProp 𝕄) := by
    rw [bigSep_chunks, bigSep_chunks, bigSep_univ_sum]
    refine BI.sep_mono (bigSep_mono fun k _ => ?_) (bigSep_mono fun k _ => ?_)
    · rw [ch_val]; exact Idealize.SL.BI.Entails.refl _
    · rw [ch_val]; exact Idealize.SL.BI.Entails.refl _
  have : Nonempty (Buf (Elt F) ((d : Thread nD τ).loc main_v1)) := ⟨f₀⟩
  refine h1.trans ((bigSep_exists_pi Finset.univ (fun t (f : Buf (Elt F) ((d : Thread nD τ).loc main_v1)) => (iprop(⌜R t f⌝ ∗ ((d : Thread nD τ).loc main_v1) ↦[oSet d t]{fullShare} f) : sProp 𝕄))).trans ?_)
  iintro ⟨%fs, H⟩
  ihave H := (bigSep_pure_sep (fun t => R t (fs t)) (fun t => (((d : Thread nD τ).loc main_v1) ↦[oSet d t]{fullShare} fs t : sProp 𝕄))) $$ H
  icases H with ⟨%hR, H⟩
  ihave H := (pointsTo_biUnion_join (ℓ := (d : Thread nD τ).loc main_v1) Finset.univ (oSet d) fs f₀ (fun s _ t _ h => out_disjoint d s t h)) $$ H
  icases H with ⟨%g, %hg, H⟩
  iexists g
  isplitr
  · ipureintro
    refine ⟨fun k => ?_, fun k => ?_⟩
    · exact (View.read_congr fun i hi => hg (.inl k) (Finset.mem_univ _) i hi).trans (hR (.inl k))
    · exact (View.read_congr fun i hi => hg (.inr k) (Finset.mem_univ _) i hi).trans (hR (.inr k))
  · ihave H := (Entails.of_eq (congrArg (fun S => (((d : Thread nD τ).loc main_v1) ↦[S]{fullShare} g : sProp 𝕄)) (out_cover d))) $$ H
    iexact H

end Cert.KProof

end
-- ==== Proof.Ends.lean ====
/-
# The first and the last table

The table of intervals that the body's operations start from, made of what the launch deals to a device, and what a
device gets back of the last table: its buffers whole, its result, and its counters at zero.
-/
module

public import proofs.«01_k».proof.Proof.Run
public import proofs.«01_k».proof.Proof.Geom

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × SemLoc sig → ℕ)

/-! # The two ends of the body: from the launch's holdings to the table, and back -/

/-! ## Tables put together -/

/-- Two tables are one. -/
theorem tab_cat (d : Dev nD) : ∀ t t' : Tab, iprop(tab m d t ∗ tab m d t') ⊢ (tab m d (t ++ t') : sProp 𝕄)
  | [], t' => by
    show iprop(emp ∗ tab m d t') ⊢ (tab m d t' : sProp 𝕄)
    iintro ⟨-, H⟩; iexact H
  | x :: t, t' => by
    show iprop((_ ∗ tab m d t) ∗ tab m d t') ⊢ iprop(_ ∗ (tab m d (t ++ t') : sProp 𝕄))
    iintro ⟨⟨H, Ht⟩, Ht'⟩
    isplitl [H]; · iexact H
    iapply (tab_cat d t t')
    isplitl [Ht] <;> iassumption

/-- One table is two. -/
theorem tab_cut (d : Dev nD) : ∀ t t' : Tab, (tab m d (t ++ t') : sProp 𝕄) ⊢ iprop(tab m d t ∗ tab m d t')
  | [], t' => by
    show (tab m d t' : sProp 𝕄) ⊢ iprop(emp ∗ tab m d t')
    iintro H; isplitr; · iempintro
    iexact H
  | x :: t, t' => by
    show iprop(_ ∗ (tab m d (t ++ t') : sProp 𝕄)) ⊢ iprop((_ ∗ tab m d t) ∗ tab m d t')
    iintro ⟨H, Ht⟩
    ihave Ht := (tab_cut d t t') $$ Ht
    icases Ht with ⟨Ht, Ht'⟩
    isplitr [Ht']; · (isplitl [H] <;> iassumption)
    iexact Ht'

/-- The order of a table's rows is of no matter. -/
theorem tab_perm (d : Dev nD) {t t' : Tab} (h : t.Perm t') : (tab m d t : sProp 𝕄) ⊢ tab m d t' := by
  induction h with
  | nil => exact Idealize.SL.BI.Entails.refl _
  | cons x _ ih =>
    show iprop(_ ∗ tab m d _) ⊢ (iprop(_ ∗ tab m d _) : sProp 𝕄)
    iintro ⟨H, Ht⟩
    isplitl [H]; · iexact H
    iapply ih $$ Ht
  | swap x y t =>
    show iprop(_ ∗ _ ∗ tab m d t) ⊢ (iprop(_ ∗ _ ∗ tab m d t) : sProp 𝕄)
    iintro ⟨H, H', Ht⟩
    isplitl [H']; · iexact H'
    isplitl [H] <;> iassumption
  | trans _ _ ih₁ ih₂ => exact ih₁.trans ih₂

/-- Rows of nothing hold nothing. -/
theorem tab_nothing (d : Dev nD) : ∀ t : Tab, (∀ x ∈ t, x.2.2 ≤ x.2.1) → (iprop(emp) : sProp 𝕄) ⊢ tab m d t
  | [], _ => Idealize.SL.BI.Entails.refl _
  | x :: t, h => by
    show (iprop(emp) : sProp 𝕄) ⊢ iprop((bigSep (Finset.Ico x.2.1 x.2.2) fun n => Res m d n x.1) ∗ tab m d t)
    rw [Finset.Ico_eq_empty_of_le (h x (List.mem_cons_self ..)), bigSep_empty]
    have ih := tab_nothing d t fun y hy => h y (List.mem_cons_of_mem _ hy)
    iintro H
    isplitr; · iempintro
    iapply ih $$ H

/-- The families in order. -/
def fams : List Fam := [.sr, .lo, .xs, .ys, .o1, .o2, .xr, .yr]

omit [FloatOps F] in
/-- Over the families: each in turn. -/
theorem bigSep_fams (Ψ : Fam → sProp 𝕄) :
    bigSep Finset.univ Ψ = iprop(Ψ .sr ∗ Ψ .lo ∗ Ψ .xs ∗ Ψ .ys ∗ Ψ .o1 ∗ Ψ .o2 ∗ Ψ .xr ∗ Ψ .yr) :=
  bigSep_univ_eq_bigSepL fams (by decide) (by decide) Ψ

/-- A kind's rows, one per family. -/
theorem tab_fams (d : Dev nD) (κ : Fam → Kind) (a b : Fam → ℕ) :
    (tab m d (fams.map fun f => (κ f, a f, b f)) : sProp 𝕄) ⊣⊢ bigSep Finset.univ fun f => bigSep (Finset.Ico (a f) (b f)) fun n => Res m d n (κ f) := by
  rw [bigSep_fams]
  simp only [fams, List.map, tab]
  constructor
  · iintro ⟨H1, H2, H3, H4, H5, H6, H7, H8, -⟩
    isplitl [H1]; · iexact H1
    isplitl [H2]; · iexact H2
    isplitl [H3]; · iexact H3
    isplitl [H4]; · iexact H4
    isplitl [H5]; · iexact H5
    isplitl [H6]; · iexact H6
    isplitl [H7] <;> iassumption
  · iintro ⟨H1, H2, H3, H4, H5, H6, H7, H8⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro

/-! ## The buffers -/

/-- The five buffers of slots and the result, whole. -/
def bufs (d : Dev nD) : sProp 𝕄 :=
  iprop((∃ f : Buf (Elt F) ((d : Thread nD τ).loc cc0_scratch0), ((d : Thread nD τ).loc cc0_scratch0) ↦{fullShare} f)
    ∗ (∃ f : Buf (Elt F) ((d : Thread nD τ).loc cc0_scratch1), ((d : Thread nD τ).loc cc0_scratch1) ↦{fullShare} f)
    ∗ (∃ f : Buf (Elt F) ((d : Thread nD τ).loc cc0_scratch2), ((d : Thread nD τ).loc cc0_scratch2) ↦{fullShare} f)
    ∗ (∃ f : Buf (Elt F) ((d : Thread nD τ).loc cc0_scratch3), ((d : Thread nD τ).loc cc0_scratch3) ↦{fullShare} f)
    ∗ (∃ f : Buf (Elt F) ((d : Thread nD τ).loc cc0_scratch4), ((d : Thread nD τ).loc cc0_scratch4) ↦{fullShare} f))

/-- The slots' rows, from chunk `s`. -/
def tabSlots (s : ℕ) : Tab := [(.sF, s, s + 4), (.xF, s, s + 4), (.lF, s, s + 4), (.aLF, s, s + 4), (.aRF, s, s + 4), (.yF, s, s + 4)]

omit [FloatOps F] in
/-- The slots of the sums in their two halves. -/
theorem halves (d : Dev nD) (s : ℕ) :
    (bigSep (Finset.Ico s (s + 4)) (fun n => vAny (slotV redM n) d fullShare) : sProp 𝕄)
      ⊣⊢ iprop((bigSep (Finset.Ico s (s + 4)) fun n => vAny (slotV redM n) d qL) ∗ bigSep (Finset.Ico s (s + 4)) fun n => vAny (slotV redM n) d qR) := by
  rw [← bigSep_sep']
  exact ⟨bigSep_mono fun n _ => any_halves _ _, bigSep_mono fun n _ => any_whole _ _⟩

/-- The buffers whole are their slots. -/
theorem bufs_tab (d : Dev nD) (s : ℕ) : (bufs (F := F) d : sProp 𝕄) ⊢ tab m d (tabSlots s) := by
  unfold bufs
  simp only [tabSlots, tab, Res]
  iintro ⟨H0, H1, H2, H3, H4⟩
  ihave H0 := (slots_split (F := F) sendM (View.set_whole _) d s) $$ H0
  ihave H1 := (slots_split (F := F) rxM (View.set_whole _) d s) $$ H1
  ihave H2 := (slots_split (F := F) locM (View.set_whole _) d s) $$ H2
  ihave H3 := (slots_split (F := F) redM (View.set_whole _) d s) $$ H3
  ihave H4 := (slots_split (F := F) ryM (View.set_whole _) d s) $$ H4
  ihave H3 := (halves (F := F) d s).1 $$ H3
  icases H3 with ⟨HL, HR⟩
  isplitl [H0]; · iexact H0
  isplitl [H1]; · iexact H1
  isplitl [H2]; · iexact H2
  isplitl [HL]; · iexact HL
  isplitl [HR]; · iexact HR
  isplitl [H4]; · iexact H4
  iempintro

/-- The slots are the buffers whole. -/
theorem tab_bufs (d : Dev nD) (s : ℕ) : (tab m d (tabSlots s) : sProp 𝕄) ⊢ bufs (F := F) d := by
  unfold bufs
  simp only [tabSlots, tab, Res]
  iintro ⟨H0, H1, H2, HL, HR, H4, -⟩
  ihave H3 := (halves (F := F) d s).2 $$ [HL HR]
  · isplitl [HL] <;> iassumption
  isplitl [H0]; · iapply (slots_join (F := F) sendM (View.set_whole _) d s (m _)) $$ H0
  isplitl [H1]; · iapply (slots_join (F := F) rxM (View.set_whole _) d s (m _)) $$ H1
  isplitl [H2]; · iapply (slots_join (F := F) locM (View.set_whole _) d s (m _)) $$ H2
  isplitl [H3]; · iapply (slots_join (F := F) redM (View.set_whole _) d s (m _)) $$ H3
  iapply (slots_join (F := F) ryM (View.set_whole _) d s (m _)) $$ H4

/-! ## The start -/

/-- The rows that the launch deals: tokens, positions, round-reached marks, slots, result. -/
def tabIn : Tab :=
  (fams.map fun b => (.T b, 0, 64)) ++ ((fams.map fun b => (.P b, 0, win b)) ++ ((fams.map fun b => (.R b, 0, win b)) ++ (tabSlots 0
    ++ [(.C .xr, 0, 64), (.C .yr, 0, 64), (.o1F, 0, 64), (.o2F, 0, 64)])))

/-- What goes to the peers in the barrier: two landing slots each. -/
def handed : List (Kind × ℕ) := [(.xF, 0), (.R .xr, 0), (.xF, 1), (.R .xr, 1), (.yF, 0), (.R .yr, 0), (.yF, 1), (.R .yr, 1)]

/-- The rows that hold nothing at first. -/
def tabNil : Tab :=
  [(.C .sr, 0, 0), (.C .lo, 0, 0), (.C .xs, 0, 0), (.C .ys, 0, 0), (.C .o1, 0, 0), (.C .o2, 0, 0), (.sD, 0, 0), (.lD, 0, 0), (.aLD, 0, 0), (.aRD, 0, 0),
   (.xD, 0, 0), (.yD, 0, 0), (.hX, 0, 0), (.hY, 0, 0), (.o1D, 0, 0), (.o2D, 0, 0)]

/-- The rows left after the barrier's hand-over. -/
def tabMid : Tab := ((takes handed tabIn).getD []) ++ tabNil

set_option maxRecDepth 65536 in
/-- The hand-over takes off the dealt rows. -/
theorem takes_handed : takes handed tabIn = some ((takes handed tabIn).getD []) := by decide +kernel

set_option maxRecDepth 65536 in
/-- With the peers' slots, the rows are the body's table. -/
theorem puts_mid : (puts [(.hX, 0), (.hX, 1), (.hY, 0), (.hY, 1)] tabMid).any (fun t => decide (t.Perm tab₀)) = true := by decide +kernel

/-- The barrier's hand-over out of the dealt rows. -/
theorem hand_over (d : Dev nD) : (tab m d tabIn : sProp 𝕄) ⊢ iprop(((handX d 0 ∗ handX d 1) ∗ (handY d 0 ∗ handY d 1)) ∗ tab m d tabMid) := by
  iintro H
  ihave H := (takes_sound m d handed tabIn _ takes_handed) $$ H
  icases H with ⟨Hi, H⟩
  isplitl [Hi]
  · simp only [handed, items, Res, handX, handY]
    rw [if_pos (by decide), if_pos (by decide), if_pos (by decide), if_pos (by decide)]
    icases Hi with ⟨H1, H2, H3, H4, H5, H6, H7, H8, -⟩
    isplitr [H5 H6 H7 H8]
    · isplitr [H3 H4]; · (isplitl [H1] <;> iassumption)
      isplitl [H3] <;> iassumption
    · isplitr [H7 H8]; · (isplitl [H5] <;> iassumption)
      isplitl [H7] <;> iassumption
  · unfold tabMid
    iapply (tab_cat m d _ _)
    isplitl [H]; · iexact H
    have h := tab_nothing m d tabNil (by decide)
    iapply h
    iempintro

/-- The peers' hand-over put into the rows: the body's table. -/
theorem handed_over (d : Dev nD) : iprop((handX (xp d) 0 ∗ handX (xp d) 1) ∗ (handY (yp d) 0 ∗ handY (yp d) 1) ∗ tab m d tabMid) ⊢ (tab m d tab₀ : sProp 𝕄) := by
  obtain ⟨t, ht, hp⟩ := Option.any_eq_true _ _ |>.mp puts_mid
  have h := (puts_sound m d [(.hX, 0), (.hX, 1), (.hY, 0), (.hY, 1)] tabMid t ht).trans (tab_perm m d (of_decide_eq_true hp))
  simp only [items, Res] at h
  iintro ⟨⟨H1, H2⟩, ⟨H3, H4⟩, H⟩
  iapply h
  isplitr [H]
  · isplitl [H1]; · iexact H1
    isplitl [H2]; · iexact H2
    isplitl [H3]; · iexact H3
    isplitl [H4]; · iexact H4
    iempintro
  iexact H

/-! ## The end -/

/-- The rows of the end that matter, and the others. -/
def tabOut : Tab := (fams.map fun b => (.P b, 64, 64 + win b)) ++ (tabSlots 64 ++ [(.o1D, 0, 64), (.o2D, 0, 64)])
/-- The others. -/
def tabDrop : Tab :=
  (fams.map fun b => (.T b, 64, 64)) ++ (fams.map fun b => (.C b, 64, 64)) ++ (fams.map fun b => (.R b, 64, 64 + win b)) ++
  [(.sD, 64, 64), (.lD, 64, 64), (.aLD, 64, 64), (.aRD, 64, 64), (.xD, 64, 64), (.yD, 64, 64), (.hX, 64, 66), (.hY, 64, 66), (.o1F, 64, 64), (.o2F, 64, 64)]

set_option maxRecDepth 65536 in
/-- Together they are the end's table. -/
theorem tab₁_perm : tab₁.Perm (tabOut ++ tabDrop) := by decide +kernel

/-- Past its last copy a semaphore has no further round. -/
theorem fam_close (d : Dev nD) (b : Fam) (n : ℕ) (h : 64 ≤ n) :
    iprop(Ctx m K ∗ posP d b n) ⊢ (|={Set.univ}=> semVal (cell d b n) 0 : sProp 𝕄) := by
  unfold posP
  iintro ⟨#HC, H⟩
  iapply (Rounds.cell_close ER (sched m) (κ := K (d, .dma (semOf b n))) (Set.mem_univ _) (fun h => h) (R := rnd b n) fun r hr =>
    duties_done m d (semOf b n) r (by
      have e := chunkN_semOf b n
      unfold chunkN at e ⊢
      have := Nat.mul_le_mul_left (win (famOf (semOf b n).val)) hr
      omega))
  isplitr
  · iapply (ctx_inv m K d (.dma (semOf b n))) $$ HC
  iexact H

omit [FloatOps F] in
/-- What holds always may be used for every member of a family. -/
theorem bigSep_use {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop((bigSep S fun _ => R) ∗ bigSep S Φ) ⊢ bigSep S Ψ := by
    rw [← bigSep_sep']; exact bigSep_mono h
  have h2 := BI.bigSep_of_persistent S R
  iintro ⟨#HR, H⟩
  iapply h1
  isplitr; · iapply h2 $$ HR
  iexact H

/-- At the end every counter is zero. -/
theorem close_all (d : Dev nD) :
    iprop(Ctx m K ∗ tab m d (fams.map fun b => (.P b, 64, 64 + win b))) ⊢ (|={Set.univ}=> bigSep Finset.univ fun q : DmaSem sig => semVal ((d : Thread nD τ), .dma q) 0 : sProp 𝕄) := by
  have h1 : iprop(Ctx m K ∗ bigSep Finset.univ fun b : Fam => bigSep (Finset.Ico 64 (64 + win b)) fun n => posP d b n)
      ⊢ (bigSep Finset.univ fun b : Fam => iprop(|={Set.univ}=> bigSep (Finset.Ico 64 (64 + win b)) fun n => semVal (cell d b n) 0) : sProp 𝕄) :=
    bigSep_use fun b _ => (bigSep_use fun n hn => fam_close m K d b n (Finset.mem_Ico.mp hn).1).trans (bigSep_fupd _ _)
  have h2 := h1.trans (bigSep_fupd _ _)
  rw [bigSep_sems_from 64]
  iintro ⟨#HC, H⟩
  ihave H := (tab_fams m d (fun b => .P b) (fun _ => 64) fun b => 64 + win b).1 $$ H
  iapply h2
  isplitr; · iexact HC
  iexact H

/-- The end's table: the buffers whole, the result whole at the sums, every counter at zero. -/
theorem tab_end (d : Dev nD) :
    iprop(Ctx m K ∗ tab m d tab₁) ⊢ (|={Set.univ}=> ((bigSep Finset.univ fun q : DmaSem sig => semVal ((d : Thread nD τ), .dma q) 0) ∗ bufs d
        ∗ ∃ g, ⌜IsOut m d g⌝ ∗ ((d : Thread nD τ).loc main_v1) ↦{fullShare} g) : sProp 𝕄) := by
  iintro ⟨#HC, H⟩
  ihave H := (tab_perm m d tab₁_perm) $$ H
  ihave H := (tab_cut m d tabOut tabDrop) $$ H
  icases H with ⟨H, -⟩
  unfold tabOut
  ihave H := (tab_cut m d _ _) $$ H
  icases H with ⟨HP, H⟩
  ihave H := (tab_cut m d _ _) $$ H
  icases H with ⟨Hs, Ho⟩
  imod (close_all m K d) $$ [HP] with HP
  · isplitr; · iexact HC
    iexact HP
  imodintro
  isplitl [HP]; · iexact HP
  isplitl [Hs]; · iapply (tab_bufs m d 64) $$ Hs
  simp only [tab, Res]
  icases Ho with ⟨H1, H2, -⟩
  iapply (out_join m d (m _))
  isplitl [H1] <;> iassumption

end Cert.KProof

end
-- ==== Proof.Body.lean ====
/-
# The body on one device

The barrier, the walk through the operations and the two ends together: the body runs from `bodyIn` to `bodyOut`.
-/
module

public import proofs.«01_k».proof.Proof.Ends

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)
variable (K : Dev nD × SemLoc sig → ℕ)

/-! # One device's whole body -/

/-- That every cell is at its round 0. -/
def reachedAll : sProp 𝕄 := bigSep Finset.univ fun c : Dev nD × SemLoc sig => reached ER (kcell c) 0

omit [FloatOps F] in
instance reachedAll_persistent : BI.Persistent (reachedAll (F := F)) := by unfold reachedAll; infer_instance

omit [FloatOps F] in
/-- One cell's. -/
theorem reached_at (d : Dev nD) (sm : SemLoc sig) : (reachedAll (F := F)) ⊢ (reached ER ((d : Thread nD τ), sm) 0 : sProp 𝕄) := by
  unfold reachedAll
  exact bigSep_elim (Finset.mem_univ (d, sm))

/-- The tokens of the copies and signals that device `d` makes. -/
def payToks (d : Dev nD) : sProp 𝕄 :=
  iprop((bigSep Finset.univ fun b : Fam => bigSep (Finset.Ico 0 64) fun n => tokP (tgt d b) b n)
    ∗ dutyTok ER (barCell (xp d)) 0 false ∗ dutyTok ER (barCell (yp d)) 0 true)

/-- Its positions at its own cells. -/
def posns (d : Dev nD) : sProp 𝕄 := bigSep Finset.univ fun sm : SemLoc sig => atPos ER ((d : Thread nD τ), sm) 0 ∅ 0

/-- The credit of what its peers owe it. -/
def credIn (d : Dev nD) : sProp 𝕄 :=
  iprop(cred (tallyAt (barCell d) 0 2) ∗ (bigSep (Finset.Ico 0 64) fun n => credP d .xr n) ∗ (bigSep (Finset.Ico 0 64) fun n => credP d .yr n))

omit [FloatOps F] in
/-- A family's first use of its semaphores is round 0. -/
theorem rnd_first (b : Fam) (n : ℕ) (h : n < win b) : rnd b n = 0 := Nat.div_eq_of_lt h

omit [FloatOps F] in
/-- The positions at the barrier and the families' first uses. -/
theorem posns_split (d : Dev nD) : (posns (F := F) d) ⊢ (iprop(atPos ER (barCell d) 0 ∅ 0
    ∗ bigSep Finset.univ fun b : Fam => bigSep (Finset.Ico 0 (win b)) fun n => posP d b n) : sProp 𝕄) := by
  unfold posns
  rw [bigSep_semLocs, bigSep_sems_from 0]
  refine BI.sep_mono (Idealize.SL.BI.Entails.refl _) (bigSep_mono fun b _ => ?_)
  rw [Nat.zero_add]
  refine bigSep_mono fun n hn => ?_
  unfold posP
  rw [rnd_first b n (Finset.mem_Ico.mp hn).2]
  exact Idealize.SL.BI.Entails.refl _

omit [FloatOps F] in
/-- The marks of the families' first uses. -/
theorem reached_fams (d : Dev nD) : (reachedAll (F := F)) ⊢ (bigSep Finset.univ fun b : Fam => bigSep (Finset.Ico 0 (win b)) fun n => reaP d b n : sProp 𝕄) := by
  have h : ∀ b n, n < win b → (reachedAll (F := F)) ⊢ (reaP d b n : sProp 𝕄) := fun b n hn => by
    unfold reaP; rw [rnd_first b n hn]; exact reached_at d (.dma (semOf b n))
  refine (BI.bigSep_of_persistent Finset.univ _).trans (bigSep_mono fun b _ => ?_)
  exact (BI.bigSep_of_persistent (Finset.Ico 0 (win b)) _).trans (bigSep_mono fun n hn => h b n (Finset.mem_Ico.mp hn).2)

/-- The rows that the launch deals. -/
theorem tab_start (d : Dev nD) (f : Buf (Elt F) ((d : Thread nD τ).loc main_v1)) :
    iprop((bigSep Finset.univ fun b : Fam => bigSep (Finset.Ico 0 64) fun n => tokP (tgt d b) b n)
        ∗ (bigSep Finset.univ fun b : Fam => bigSep (Finset.Ico 0 (win b)) fun n => posP d b n)
        ∗ (bigSep Finset.univ fun b : Fam => bigSep (Finset.Ico 0 (win b)) fun n => reaP d b n)
        ∗ bufs d ∗ (bigSep (Finset.Ico 0 64) fun n => credP d .xr n) ∗ (bigSep (Finset.Ico 0 64) fun n => credP d .yr n)
        ∗ (((d : Thread nD τ).loc main_v1) ↦{fullShare} f))
      ⊢ (tab m d tabIn : sProp 𝕄) := by
  iintro ⟨HT, HP, HR, HB, Hx, Hy, Ho⟩
  unfold tabIn
  iapply (tab_cat m d _ _)
  isplitl [HT]
  · iapply (tab_fams m d (fun b => .T b) (fun _ => 0) fun _ => 64).2; iexact HT
  iapply (tab_cat m d _ _)
  isplitl [HP]
  · iapply (tab_fams m d (fun b => .P b) (fun _ => 0) win).2; iexact HP
  iapply (tab_cat m d _ _)
  isplitl [HR]
  · iapply (tab_fams m d (fun b => .R b) (fun _ => 0) win).2; iexact HR
  iapply (tab_cat m d _ _)
  isplitl [HB]
  · iapply (bufs_tab m d 0); iexact HB
  simp only [tab, Res]
  ihave Ho := (out_split d f) $$ Ho
  icases Ho with ⟨H1, H2⟩
  isplitl [Hx]; · iexact Hx
  isplitl [Hy]; · iexact Hy
  isplitl [H1]; · iexact H1
  isplitl [H2]; · iexact H2
  iempintro

omit [FloatOps F] in
/-- At the end nothing is owed. -/
theorem owe_end (d : Dev nD) : Owe d 64 64 = 0 := by
  unfold Owe
  rw [Finset.Ico_self, Finset.sum_empty, Finset.sum_empty, add_zero]

/-- What a device holds before its body. -/
def bodyIn (d : Dev nD) : sProp 𝕄 :=
  iprop(Ctx m K ∗ reachedAll ∗ posns d ∗ payToks d ∗ credIn d ∗ argP m d ∗ bufs d ∗ (∃ f, ((d : Thread nD τ).loc main_v1) ↦{fullShare} f))

/-- What a device holds after its body. -/
def bodyOut (d : Dev nD) : sProp 𝕄 :=
  iprop(semVal (barCell d) 0 ∗ (bigSep Finset.univ fun q : DmaSem sig => semVal ((d : Thread nD τ), .dma q) 0) ∗ bufs d
    ∗ argP m d ∗ ∃ g, ⌜IsOut m d g⌝ ∗ ((d : Thread nD τ).loc main_v1) ↦{fullShare} g)

/-- The body, from the launch's holdings to the result. -/
theorem sound_body (d : Dev nD) (Q : PUnit → sProp 𝕄) :
    iprop(bodyIn m K d ∗ ∃ W : Waits sig ℕ, owes (d : Thread nD τ) (O₀ d) W)
      ⊢ iprop(((bodyOut m d ∗ ∃ W : Waits sig ℕ, owes (d : Thread nD τ) 0 W) -∗ Q ⟨⟩) -∗ wpD d (runP d trace) Q) := by
  rw [trace_eq]
  unfold bodyIn payToks credIn
  iintro ⟨⟨#HC, #HR, Hat, ⟨HT, Ht1, Ht2⟩, ⟨Hc, Hx, Hy⟩, Harg, HB, ⟨%f, Ho⟩⟩, HO⟩ Hk
  ihave Hat := (posns_split (F := F) d) $$ Hat
  icases Hat with ⟨HatB, HP⟩
  ihave HRf := (reached_fams (F := F) d) $$ HR
  ihave Ht := (tab_start m d f) $$ [HT HP HRf HB Hx Hy Ho]
  · isplitl [HT]; · iexact HT
    isplitl [HP]; · iexact HP
    isplitl [HRf]; · iexact HRf
    isplitl [HB]; · iexact HB
    isplitl [Hx]; · iexact Hx
    isplitl [Hy] <;> iassumption
  ihave Ht := (hand_over m d) $$ Ht
  icases Ht with ⟨⟨HhX, HhY⟩, Ht⟩
  iapply (wp_barrier m K d rest Q) $$ [HO Ht1 Ht2 Hc HatB HhX HhY]
  · isplitr; · iexact HC
    isplitl [HO]; · iexact HO
    unfold barIn
    isplitl [Ht1]; · iexact Ht1
    isplitl [Ht2]; · iexact Ht2
    isplitr; · iapply (reached_at (F := F) (xp d) (.reg barS)) $$ HR
    isplitr; · iapply (reached_at (F := F) (yp d) (.reg barS)) $$ HR
    isplitl [Hc]; · iexact Hc
    isplitl [HatB]; · iexact HatB
    isplitl [HhX] <;> iassumption
  iintro ⟨HO, Hb⟩
  unfold barOut
  icases Hb with ⟨HatB, HhX, HhY⟩
  ihave Ht := (handed_over m d) $$ [HhX HhY Ht]
  · isplitl [HhX]; · iexact HhX
    isplitl [HhY] <;> iassumption
  iapply (wp_run m K d Q rest (0, 0) (64, 64) tab₀ tab₁ runT_rest) $$ [Harg HO Ht]
  · isplitr; · iexact HC
    isplitl [Harg]; · iexact Harg
    isplitl [HO] <;> iassumption
  iintro ⟨Harg, HO, Ht⟩
  imod (tab_end m K d) $$ [Ht] with ⟨Hs, HB, Hout⟩
  · isplitr; · iexact HC
    iexact Ht
  imod (Rounds.cell_close ER (sched m) (κ := K (d, .reg barS)) (g := barCell d) (Set.mem_univ _) (fun h => h) (R := 1) (duties_bar_later m d)) $$ [HatB] with HzB
  · isplitr; · iapply (ctx_inv m K d (.reg barS)) $$ HC
    iexact HatB
  imodintro
  iapply Hk
  unfold oweP bodyOut
  rw [owe_end]
  isplitr [HO]
  · isplitl [HzB]; · iexact HzB
    isplitl [Hs]; · iexact Hs
    isplitl [HB]; · iexact HB
    isplitl [Harg] <;> iassumption
  iexact HO

end Cert.KProof

end
-- ==== Proof.Deal.lean ====
/-
# Dealing the tokens

Every counter becomes a cell of the protocol, and the tokens of its rounds go to the devices that pay them: a device's
copies into its own cells, the x-peer's and the y-peer's receipts, and the units of the two barriers.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! # The launch: cells, tokens and credit dealt to the devices, and the run -/

/-! ## Cells and tokens -/

omit [FloatOps F] in
/-- Different semaphores of different devices are different cells. -/
theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  rw [h1, h2]

/-- Every cell. -/
def allCells : Finset (GSem nD τ sig) := Finset.univ.map ⟨kcell, kcell_injective⟩

/-- The names of the tokens: a device, and a family's chunk or a barrier's unit. -/
abbrev TokIx : Type := Dev nD × ((Fam × Fin 64) ⊕ Bool)

/-- The token of a name: whose cell, which round, which duty. -/
def tokOf (x : TokIx) : GSem nD τ sig × ℕ × Bool := match x.2 with
  | .inl bk => (cell x.1 bk.1 bk.2.val, rnd bk.1 bk.2.val, false)
  | .inr t => (barCell x.1, 0, t)

omit [FloatOps F] in
/-- Different names are different tokens. -/
theorem tokOf_injective : Function.Injective tokOf := by
  rintro ⟨c, x⟩ ⟨c', x'⟩ h
  have h1 : c = c' := by
    have := congrArg (fun x : GSem nD τ sig × ℕ × Bool => x.1.1.1) h
    cases x <;> cases x' <;> exact this
  subst h1
  match x, x' with
  | .inr t, .inr t' =>
    have : t = t' := congrArg (fun x : GSem nD τ sig × ℕ × Bool => x.2.2) h
    rw [this]
  | .inl bk, .inr t =>
    have hs : SemLoc.dma (semOf bk.1 bk.2.val) = SemLoc.reg barS := congrArg (fun x : GSem nD τ sig × ℕ × Bool => x.1.2) h
    cases hs
  | .inr t, .inl bk =>
    have hs : SemLoc.reg barS = SemLoc.dma (semOf bk.1 bk.2.val) := congrArg (fun x : GSem nD τ sig × ℕ × Bool => x.1.2) h
    cases hs
  | .inl (b, k), .inl (b', k') =>
    have hs : semOf b k.val = semOf b' k'.val := SemLoc.dma.inj (congrArg (fun x : GSem nD τ sig × ℕ × Bool => x.1.2) h)
    have hr : rnd b k.val = rnd b' k'.val := congrArg (fun x : GSem nD τ sig × ℕ × Bool => x.2.1) h
    have hb : b = b' := by rw [← famOf_semOf b k.val, ← famOf_semOf b' k'.val, hs]
    have hk : k.val = k'.val := by rw [← chunkN_semOf b k.val, ← chunkN_semOf b' k'.val, hs, hr]
    rw [hb, Fin.ext hk]

/-- Every token. -/
def allToks : Finset (GSem nD τ sig × ℕ × Bool) := Finset.univ.map ⟨tokOf, tokOf_injective⟩

/-- The launch's element: the launch's own part and the protocol's, every cell at its first round. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun b : Fam => bigSep (Finset.Ico 0 64) fun n => tokP c b n)
    ∗ dutyTok ER (barCell c) 0 false ∗ dutyTok ER (barCell c) 0 true)

/-- What the launch's element deals a device. -/
def G (c : Dev nD) : sProp 𝕄 :=
  iprop((bigSep Finset.univ fun sm : SemLoc sig => roundState ER (sched m) (kcell (c, sm)) 0)
    ∗ (bigSep Finset.univ fun sm : SemLoc sig => iprop(atPos ER (kcell (c, sm)) 0 ∅ 0 ∗ reached ER (kcell (c, sm)) 0)) ∗ toks c)

/-- Every cell's invariant. -/
def invsAll (K : Dev nD × SemLoc sig → ℕ) : sProp 𝕄 := bigSep Finset.univ fun c : Dev nD × SemLoc sig => cellInv ER (sched m) (K c) (kcell c)

instance invsAll_persistent (K : Dev nD × SemLoc sig → ℕ) : BI.Persistent (invsAll (F := F) m K) := by unfold invsAll; infer_instance

/-- What a device has once the cells' invariants are set up. -/
def G' (c : Dev nD) : sProp 𝕄 := iprop(∃ K, (invsAll m K ∗ reachedAll) ∗ posns c ∗ payToks c)

/-- The launch's element, dealt. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ (kcell (c, sm)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_prod]
    unfold toks
    rw [bigSep_univ_eq_bigSepL [false, true] (by decide) (by decide), bigSepL_cons_cons, bigSepL_singleton]
    simp only [bigSep_chunks]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the DMA semaphores. -/
abbrev osem : DmaSem sig → SemLoc sig := fun q => .dma q

omit [FloatOps F] in
/-- They are its own. -/
theorem ownSemFacts : Pipeline.OwnSemFacts cfg0.spec osem := by decide

omit [FloatOps F] in
/-- The barrier's is the launch's one other. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All a device's counters at zero. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun sm : SemLoc sig => semVal (kcell (c, sm)) 0 : sProp 𝕄) := by
  rw [unscopedSems0_eq, bigSep_semLocs]
  unfold Pipeline.ownSems0
  iintro ⟨HS, HB⟩
  isplitl [HB] <;> iassumption

/-- A device's counters and cell states make its cells' invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun sm => iprop(∃ κ : ℕ, cellInv ER (sched m) κ (kcell (c, sm))))
          ∗ (bigSep Finset.univ fun sm => iprop(atPos ER (kcell (c, sm)) 0 ∅ 0 ∗ reached ER (kcell (c, sm)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal (kcell (c, sm)) 0) ∗ bigSep Finset.univ fun sm : SemLoc sig => roundState ER (sched m) (kcell (c, sm)) 0)
      ⊢ (|={Set.univ}=> bigSep Finset.univ fun sm => iprop(∃ κ : ℕ, cellInv ER (sched m) κ (kcell (c, sm))) : sProp 𝕄) from by
        rw [← bigSep_sep']
        exact (bigSep_mono fun sm _ => (Rounds.body_intro ER (sched m) (kcell (c, sm))).trans inv_alloc).trans (bigSep_fupd _ _)) $$ [Hv Hst] with Hinv
  · isplitl [Hv] <;> iassumption
  imodintro
  isplitl [Hinv]; · iexact Hinv
  isplitl [Hat]; · iexact Hat
  iexact Htok

set_option backward.proofsInPublic true in
/-- Whose cell a family's copies pay, as a permutation of the devices. -/
def tgtE (b : Fam) : Dev nD ≃ Dev nD where
  toFun d := tgt d b
  invFun d := tgt d b
  left_inv d := by cases b <;> first | rfl | exact xp_xp d | exact yp_yp d
  right_inv d := by cases b <;> first | rfl | exact xp_xp d | exact yp_yp d
set_option backward.proofsInPublic true in
/-- The peers along x. -/
def xE : Dev nD ≃ Dev nD := ⟨xp, xp, xp_xp, xp_xp⟩
set_option backward.proofsInPublic true in
/-- The peers along y. -/
def yE : Dev nD ≃ Dev nD := ⟨yp, yp, yp_yp, yp_yp⟩

omit [FloatOps F] in
/-- The tokens go to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv xE (fun c : Dev nD => (dutyTok ER (barCell c) 0 false : sProp 𝕄)),
    bigSep_univ_equiv yE (fun c : Dev nD => (dutyTok ER (barCell c) 0 true : sProp 𝕄)),
    bigSep_univ_comm (fun (c : Dev nD) (b : Fam) => bigSep (Finset.Ico 0 64) fun n => (tokP c b n : sProp 𝕄)),
    bigSep_univ_comm (fun (c : Dev nD) (b : Fam) => bigSep (Finset.Ico 0 64) fun n => (tokP (tgt c b) b n : sProp 𝕄)),
    bigSep_congr (s := Finset.univ) fun (b : Fam) _ => bigSep_univ_equiv (tgtE b) (fun c : Dev nD => bigSep (Finset.Ico 0 64) fun n => (tokP c b n : sProp 𝕄))]
  exact Idealize.SL.BI.Entails.refl _

/-- The devices' holdings with the names of the invariants chosen and the tokens where they are paid. -/
theorem regroup :
    (bigSep Finset.univ fun c : Dev nD => iprop((bigSep Finset.univ fun sm => iprop(∃ κ : ℕ, cellInv ER (sched m) κ (kcell (c, sm))))
          ∗ (bigSep Finset.univ fun sm => iprop(atPos ER (kcell (c, sm)) 0 ∅ 0 ∗ reached ER (kcell (c, sm)) 0)) ∗ toks c) : sProp 𝕄)
      ⊢ bigSep Finset.univ (G' m) := by
  rw [bigSep_sep', bigSep_sep', ← bigSep_univ_prod (fun ck : Dev nD × SemLoc sig => iprop(∃ κ : ℕ, cellInv ER (sched m) κ (kcell ck))),
    bigSep_congr (s := Finset.univ) (fun (c : Dev nD) _ => bigSep_sep' Finset.univ (fun sm : SemLoc sig => (atPos ER (kcell (c, sm)) 0 ∅ 0 : sProp 𝕄)) (fun sm => reached ER (kcell (c, sm)) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (sched m) κ (kcell ck) : sProp 𝕄))) $$ HI
  icases HK with ⟨%K, #HI⟩
  ihave Htk := (toks_around (F := F)) $$ Htok
  have hg : ∀ c : Dev nD, iprop((invsAll m K ∗ reachedAll) ∗ (posns c ∗ payToks c)) ⊢ G' m c := fun c => by
    unfold G'
    iintro H
    iexists K
    iexact H
  iapply (bigSep_use (R := iprop(invsAll m K ∗ reachedAll)) fun c _ => hg c)
  isplitr
  · isplitl; · unfold invsAll; iexact HI
    unfold reachedAll; iexact HR
  · iapply (Entails.of_eq (bigSep_sep' Finset.univ (fun c : Dev nD => (posns c : sProp 𝕄)) payToks).symm)
    isplitl [Hat]; · unfold posns; iexact Hat
    iexact Htk

/-- The launch's step over all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

omit [FloatOps F] in
/-- What the peers owe a device is its credit. -/
theorem creds (c : Dev nD) : (Pipeline.launchCred O₀ c : sProp 𝕄) ⊢ credIn (F := F) c := by
  have h0 : (Pipeline.launchCred O₀ c : sProp 𝕄) = iprop((((bigSep (Finset.Ico 0 64) fun k => Pipeline.launchCred (fun d => tallyAt (cell (xp d) .xr k) k N) c)
      ∗ (bigSep (Finset.Ico 0 64) fun k => Pipeline.launchCred (fun d => tallyAt (cell (yp d) .yr k) k N) c))
      ∗ Pipeline.launchCred (fun d => tallyAt (barCell (yp d)) 0 1) c) ∗ Pipeline.launchCred (fun d => tallyAt (barCell (xp d)) 0 1) c) := by
    unfold O₀ O₁ Owe
    rw [Pipeline.launchCred_add, Pipeline.launchCred_add, Pipeline.launchCred_add, Pipeline.launchCred_sum, Pipeline.launchCred_sum]
  have hx : (bigSep (Finset.Ico 0 64) fun k => (Pipeline.launchCred (fun d => tallyAt (cell (xp d) .xr k) k N) c : sProp 𝕄)) ⊢ bigSep (Finset.Ico 0 64) fun n => credP c .xr n :=
    bigSep_mono fun k _ => Pipeline.launchCred_tallyAt (.dma (semOf .xr k)) xp xp xp_xp xp_xp k N c
  have hy : (bigSep (Finset.Ico 0 64) fun k => (Pipeline.launchCred (fun d => tallyAt (cell (yp d) .yr k) k N) c : sProp 𝕄)) ⊢ bigSep (Finset.Ico 0 64) fun n => credP c .yr n :=
    bigSep_mono fun k _ => Pipeline.launchCred_tallyAt (.dma (semOf .yr k)) yp yp yp_yp yp_yp k N c
  have hb1 : (Pipeline.launchCred (fun d => tallyAt (barCell (yp d)) 0 1) c : sProp 𝕄) ⊢ cred (tallyAt (barCell c) 0 1) :=
    Pipeline.launchCred_tallyAt (.reg barS) yp yp yp_yp yp_yp 0 1 c
  have hb2 : (Pipeline.launchCred (fun d => tallyAt (barCell (xp d)) 0 1) c : sProp 𝕄) ⊢ cred (tallyAt (barCell c) 0 1) :=
    Pipeline.launchCred_tallyAt (.reg barS) xp xp xp_xp xp_xp 0 1 c
  have h2 : (tallyAt (barCell c) 0 2 : CellTallies nD τ sig ℕ) = tallyAt (barCell c) 0 1 + tallyAt (barCell c) 0 1 := (tallyAt_add _ _ 1 1).symm
  rw [h0]
  unfold credIn
  rw [h2]
  iintro ⟨⟨⟨Hx, Hy⟩, H1⟩, H2⟩
  ihave Hx := hx $$ Hx
  ihave Hy := hy $$ Hy
  ihave H1 := hb1 $$ H1
  ihave H2 := hb2 $$ H2
  isplitl [H1 H2]
  · iapply (cred_add _ _).2
    isplitl [H1] <;> iassumption
  isplitl [Hx] <;> iassumption

end Cert.KProof

end
-- ==== Proof.Main.lean ====
/- # The run of the whole mesh

The body's triple on one device and the dealing of the tokens over the mesh together give the run of all four devices:
it terminates without fault, every argument is unchanged, every result holds its sums and every counter is zero.
-/
module

public import proofs.«01_k».proof.Proof.Deal
public import proofs.«01_k».proof.Proof.Gen.KernelIdeal.Points

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- Before the body. -/
def Φ₀ (c : Dev nD) : sProp 𝕄 := iprop(∃ K, bodyIn m K c)

/-- The proof data of the call: no windows, one point. -/
def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => bodyOut m c
  q _ := fullShare
  owed t := match t with
    | ⟨0, _⟩ => O₀ c
    | ⟨_ + 1, _⟩ => 0

set_option maxRecDepth 65536 in
/-- The body takes every device from what it holds before to what it holds after. -/
theorem body_obligation (c : Dev nD) : BodyObligation (dats (F := F) m 0 c) (defs₀ (F := F)) 𝒱₀ 0 Set.univ := fun t => by
  rw [fin_N0 t]
  show iprop(Φ₀ m c ∗ (dats m 0 c).owesAt 0 t0_0.castSucc ∗ _) ⊢ wp frame (wpE (defs₀ (F := F)) 𝒱₀ c none) Set.univ (bodyAt0 t0_0)
    fun _ => iprop(bodyOut m c ∗ (dats m 0 c).owesAt 0 t0_0.succ ∗ _)
  rw [body_eq]
  unfold Φ₀ Dat.owesAt Pipeline.owesWithin
  rw [show (dats m 0 c).owed t0_0.castSucc = O₀ c from rfl, show (dats m 0 c).owed t0_0.succ = 0 from rfl]
  simp only [wp_deviceId]
  iintro ⟨⟨%K, Hin⟩, ⟨%W, -, HO⟩, -⟩
  iapply (sound_body m K c) $$ [Hin HO]
  · isplitl [Hin]; · iexact Hin
    iexists W; iexact HO
  iintro ⟨Hout, ⟨%W', HO⟩⟩
  isplitl [Hout]; · iexact Hout
  isplitl [HO]
  · iexists W'
    isplitr; · ipureintro; exact fun _ _ => Or.inl trivial
    iexact HO
  have he : ∀ Ψ : Fin cfg0.W → sProp 𝕄, bigSep Finset.univ Ψ = iprop(emp) := fun Ψ => by
    have : (Finset.univ : Finset (Fin cfg0.W)) = ∅ := rfl
    rw [this, bigSep_empty]; rfl
  rw [he]
  iempintro

/-- What a device has when the call starts, its scratch buffers aside. -/
def start (c : Dev nD) : sProp 𝕄 :=
  iprop(G' m c ∗ credIn c ∗ levAts L lv ∗ argP m c ∗ ∃ f, ((c : Thread nD τ).loc main_v1) ↦{fullShare} f)

/-- What a device keeps of its end for the last reading. -/
def fin (c : Dev nD) : sProp 𝕄 :=
  iprop(unscopedSems0 c ∗ argP m c ∗ ∃ g, ⌜IsOut m c g⌝ ∗ ((c : Thread nD τ).loc main_v1) ↦{fullShare} g)

/-- The launch gives a device that. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds (F := F) c) $$ Hcr
  imodintro
  unfold start argP
  isplitl
  · isplitl [HG]; · iexact HG
    isplitl [Hc]; · iexact Hc
    isplitl [Hlev]; · iexact Hlev
    isplitl [Ha]; · iexists fullShare; iexact Ha
    iexists _; iexact Hv
  · iempintro

/-- With the scratch buffers it is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start G' bodyIn Ctx bufs invsAll
  iintro ⟨⟨⟨%K, ⟨HI, HR⟩, Hat, Htok⟩, Hc, Hlev, Harg, Hv⟩, -, HB⟩
  iexists K
  isplitl [HI Hlev]
  · isplitl [HI] <;> iassumption
  isplitl [HR]; · iexact HR
  isplitl [Hat]; · iexact Hat
  isplitl [Htok]; · iexact Htok
  isplitl [Hc]; · iexact Hc
  isplitl [Harg]; · iexact Harg
  isplitl [HB] <;> iassumption

/-- What the body leaves. -/
theorem phi1_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = bodyOut m c from rfl, scopedRest0_eq]
  unfold bodyOut fin bufs Pipeline.ownSems0
  rw [unscopedSems0_eq]
  iintro ⟨HzB, Hs, HB, Harg, Hout⟩
  isplitl [HzB Harg Hout]
  · isplitl [HzB]; · iexact HzB
    isplitl [Harg] <;> iassumption
  isplitl [Hs] <;> iassumption

/-- What is known of a device at the end: its argument's block as it was, its result, its counters. -/
def AtEnd (c : Dev nD) (s : MemSt nD τ sig (Elt F)) : Prop :=
  (s.mem ((c : Thread nD τ).loc main_arg0) = m ((c : Thread nD τ).loc main_arg0) ∧ IsOut m c (s.mem ((c : Thread nD τ).loc main_v1)))
    ∧ ∀ sm : SemLoc sig, sm.isScoped .tc = false → s.sem ((c.tc : Thread nD τ), sm) = 0

/-- The last reading. -/
theorem fin_read (c : Dev nD) (s' : Phys nD τ sig (Elt F)) :
    iprop(fin m c ∗ emp ∗ SI s') ⊢ (|={Set.univ}=> iprop(⌜AtEnd m c s'.mem⌝ ∗ SI s') : sProp 𝕄) := by
  unfold fin argP
  iintro ⟨⟨Hu, ⟨%q, Ha⟩, ⟨%g, %hg, Hv⟩⟩, -, HSI⟩
  icombine HSI Ha gives %h1
  icombine HSI Hv gives %h2
  imod (Pipeline.unscopedSems0_read (X := unscopedSems0 c) (c := c) fupd_intro s') $$ [Hu HSI] with ⟨%h3, HSI⟩
  · isplitl [Hu] <;> iassumption
  imodintro
  isplitr
  · ipureintro
    refine ⟨⟨Buf.eq_of_forall_mem_univ h1, ?_⟩, h3⟩
    rw [Buf.eq_of_forall_mem_univ h2]
    exact hg
  iexact HSI

set_option maxRecDepth 65536 in
/-- On the mesh, for any float values, from any memory with zero counters: every execution terminates without fault, and
    at its end every device's argument is unchanged, its result holds the sums, and every counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0) ∧ IsOut m c (r.2.mem ((c : Thread nD τ).loc main_v1)))
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) 0 0 c fun w => w.elim0)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => w.elim0) (hpf := fun _ k => k.elim0)
    (X := start m) (Y := fin m) (Z := fun _ => iprop(emp))
    (hX := start_intro m ρ) (hin := phi0_intro m) (hout := phi1_exit m)
    (QY := AtEnd m)
    (hY := fin_read m)
    (hQ := fun _ h hs => ⟨fun c => (h c).2.2.1, sem_eq_zero hs fun c => (h c).2.2.2⟩)

end Cert.KProof

end
-- ==== Proof.Value.lean ====
/- # The result is the reference's

At exact arithmetic every element of a device's result is the sum of the two halves of the whole array at that
element's place in the whole result, which is what the reference's sum over the first axis is there.
-/
module

public import proofs.«01_k».proof.Proof.Geom
public import proofs.«01_k».proof.Proof.Gen.ReferenceIdeal.Run
public import Idealize.ShloMosaic.Lib.IdealHost
public import Idealize.ShloMosaic.Lib.Layout
public import Idealize.ShloMosaic.Lib.Pipeline.Value
public import Idealize.ShloMosaic.Lib.Pointwise.Reduce

@[expose] public section

noncomputable section

namespace Cert.KProof

open Cert.KernelIdeal Cert.KernelIdeal.Gen
open Idealize.ShloMosaic
open Idealize.ShloMosaic.TcCoe
open Idealize.SL.Sem

section Places

variable {F : FTy → Type} [FloatOps F]
variable (m : (ℓ : Loc nD τ sig) → Buf (Elt F) ℓ)

/-! # Where the chunks lie -/

/-- A chunk in the device's own columns, element by element. -/
theorem own_at (d : Dev nD) (k : Fin 64) (x : S128x1024.Idx) (i : S1x16384x2048.Idx)
    (h1 : (i 1).val = 8192 * (d.val % 2) + 128 * k.val + (x 0).val) (h2 : (i 2).val = 1024 * (d.val / 2) + (x 1).val) :
    Ow m d k.val x = X m d i := by
  unfold Ow
  rw [ch_val, Memref.read_squeeze_slice (hc := (show S1x128x1024.ShapeCasts S128x1024 by decide))]
  refine (shapeCast_dropUnit_apply _ _ _ x).trans ?_
  refine congrArg (X m d) (funext fun a => Fin.ext ?_)
  show k0_off2 d (rowW k) a + 1 * ((Fin.cons ⟨0, Nat.one_pos⟩ x : S1x128x1024.Idx) a).val = (i a).val
  rw [k0_off2_eq]
  match a with
  | ⟨0, _⟩ => have h0 : (i 0).val < 1 := (i 0).isLt; show 0 + 1 * 0 = (i 0).val; omega
  | ⟨1, _⟩ => show 8192 * (d.val % 2) + 128 * k.val + 1 * (x 0).val = (i 1).val; omega
  | ⟨2, _⟩ => show 1024 * (d.val / 2) + 1 * (x 1).val = (i 2).val; omega

/-- A chunk in the x-peer's columns, element by element. -/
theorem peer_at (d : Dev nD) (k : Fin 64) (x : S128x1024.Idx) (i : S1x16384x2048.Idx)
    (h1 : (i 1).val = 8192 * (d.val % 2) + 128 * k.val + (x 0).val) (h2 : (i 2).val = 1024 - 1024 * (d.val / 2) + (x 1).val) :
    Sx m d k.val x = X m d i := by
  unfold Sx
  rw [ch_val, Memref.read_squeeze_slice (hc := (show S1x128x1024.ShapeCasts S128x1024 by decide))]
  refine (shapeCast_dropUnit_apply _ _ _ x).trans ?_
  refine congrArg (X m d) (funext fun a => Fin.ext ?_)
  show k0_off1 d (rowW k) a + 1 * ((Fin.cons ⟨0, Nat.one_pos⟩ x : S1x128x1024.Idx) a).val = (i a).val
  rw [k0_off1_eq]
  match a with
  | ⟨0, _⟩ => have h0 : (i 0).val < 1 := (i 0).isLt; show 0 + 1 * 0 = (i 0).val; omega
  | ⟨1, _⟩ => show 8192 * (d.val % 2) + 128 * k.val + 1 * (x 0).val = (i 1).val; omega
  | ⟨2, _⟩ => show 1024 - 1024 * (d.val / 2) + 1 * (x 1).val = (i 2).val; omega

/-- Every element of a result is an element of a chunk's sum: of the device's own sum in the rows of its half, of the
    y-peer's in the others. -/
theorem out_at (d : Dev nD) (g : Buf (Elt F) ((d : Thread nD τ).loc main_v1)) (h : IsOut m d g) (i : S16384x1024.Idx) :
    ∃ e : Dev nD, e.val / 2 = d.val / 2 ∧ ∃ (k : Fin 64) (x : S128x1024.Idx),
      g i = Red m e k.val x ∧ (i 0).val = 8192 * (e.val % 2) + 128 * k.val + (x 0).val ∧ (i 1).val = (x 1).val := by
  have hi : i ∈ Finset.univ.biUnion (oSet d) := by rw [out_cover]; exact Finset.mem_univ _
  obtain ⟨s, -, hs⟩ := Finset.mem_biUnion.mp hi
  have hd : d.val < 4 := d.isLt
  match s with
  | .inl k =>
    obtain ⟨x, hx⟩ := (out1V d k).view.exists_emb_of_mem_set hs
    refine ⟨d, rfl, k, x, ?_, ?_, ?_⟩
    · rw [← h.1 k, ← hx]; rfl
    · rw [← hx]
      show k0_off3 d (rowW k) 0 + 1 * (x 0).val = _
      rw [k0_off3_eq]
      show 8192 * (d.val % 2) + 128 * k.val + 1 * (x 0).val = _
      omega
    · rw [← hx]
      show k0_off3 d (rowW k) 1 + 1 * (x 1).val = _
      rw [k0_off3_eq]
      show 0 + 1 * (x 1).val = _
      omega
  | .inr k =>
    obtain ⟨x, hx⟩ := (out2V d k).view.exists_emb_of_mem_set hs
    have hy : (yp d).val = if d.val % 2 = 0 then d.val + 1 else d.val - 1 := rfl
    refine ⟨yp d, by rw [hy]; split <;> omega, k, x, ?_, ?_, ?_⟩
    · rw [← h.2 k, ← hx]; rfl
    · rw [← hx]
      show k0_off4 d (rowW k) 0 + 1 * (x 0).val = _
      rw [k0_off4_eq, hy]
      show 128 * k.val + 8192 - 8192 * (d.val % 2) + 1 * (x 0).val = _
      split <;> omega
    · rw [← hx]
      show k0_off4 d (rowW k) 1 + 1 * (x 1).val = _
      rw [k0_off4_eq]
      show 0 + 1 * (x 1).val = _
      omega

end Places

/-! # The sum -/

/-- The whole array. -/
abbrev SW : Shape := ⟨3, ![2, 16384, 2048]⟩

variable (m : (ℓ : Loc nD τ sig) → Buf (Elt Ideal) ℓ)

/-- Every device's block is its x coordinate's half of the whole array. -/
def Blocks (A : SW.Idx → EReal) : Prop :=
  ∀ c : Dev nD, m ((c.tc : Thread nD τ).loc main_arg0) = Layout.blockN ⟨3, ![1, 16384, 2048]⟩ SW (Layout.meshBlock [2, 2] ![[0], [], []] c) A

/-- The block's element is the whole array's, in that half. -/
theorem block_at {A : SW.Idx → EReal} (hA : Blocks m A) (d : Dev nD) (r : Fin 16384) (c : Fin 2048) (a : Fin 2) (ha : a.val = d.val / 2) :
    X m d (ix3 (0 : Fin 1) r c) = A (ix3 a r c) := by
  have hd : d.val < 4 := d.isLt
  show m ((d.tc : Thread nD τ).loc main_arg0) _ = _
  rw [hA d, Layout.blockN_apply]
  refine congrArg A (funext fun b => Fin.ext ?_)
  rw [Layout.TilesN.idx_val]
  match b with
  | ⟨0, _⟩ => show ((d.val / 2) % 2 * 1 + 0) * 1 + 0 = a.val; omega
  | ⟨1, _⟩ => show 0 * 16384 + r.val = r.val; omega
  | ⟨2, _⟩ => show 0 * 2048 + c.val = c.val; omega

/-- A chunk's sum, element by element, is the sum of the two halves. -/
theorem red_at {A : SW.Idx → EReal} (hA : Blocks m A) (e : Dev nD) (k : Fin 64) (x : S128x1024.Idx) (r : Fin 16384) (c : Fin 2048)
    (hr : r.val = 8192 * (e.val % 2) + 128 * k.val + (x 0).val) (hc : c.val = 1024 * (e.val / 2) + (x 1).val) :
    Red m e k.val x = A (ix3 (0 : Fin 2) r c) + A (ix3 (1 : Fin 2) r c) := by
  have he : e.val < 4 := e.isLt
  have hx : (xp e).val = (e.val + 2) % 4 := rfl
  have h1 : Ow m e k.val x = X m e (ix3 (0 : Fin 1) r c) := own_at m e k x _ hr hc
  have h2 : Sx m (xp e) k.val x = X m (xp e) (ix3 (0 : Fin 1) r c) :=
    peer_at m (xp e) k x _ (by show r.val = _; omega) (by show c.val = _; omega)
  have h : Red m e k.val x = (Ow m e k.val x + Sx m (xp e) k.val x : EReal) := rfl
  rw [h, h1, h2]
  by_cases h0 : e.val / 2 = 0
  · rw [block_at m hA e r c 0 (by show 0 = _; omega), block_at m hA (xp e) r c 1 (by show 1 = _; omega)]
  · rw [block_at m hA e r c 1 (by show 1 = _; omega), block_at m hA (xp e) r c 0 (by show 0 = _; omega), add_comm]

/-- The reference's result, of the whole array. -/
abbrev refOut (A : SW.Idx → EReal) : (⟨2, ![16384, 2048]⟩ : Shape).Idx → EReal :=
  Host.reduceAdd (F := Ideal) (φ := .f32) A (constant (F := Ideal) Cert.ReferenceIdeal.S_ .f32 0x00000000#32)
    Cert.ReferenceIdeal.Gen.reducesTo_S2x16384x2048_S16384x2048_d0 Cert.ReferenceIdeal.Gen.h_S_

/-- The reference's result, element by element, is the sum of the two halves. -/
theorem refOut_at (A : SW.Idx → EReal) (r : Fin 16384) (c : Fin 2048) :
    refOut A (ix2 r c) = A (ix3 (0 : Fin 2) r c) + A (ix3 (1 : Fin 2) r c) := by
  unfold refOut
  rw [ValueIdx.hostReduceAdd_apply, Ideal.hostReduceAdd_r3_a0, Fin.sum_univ_two, ValueIdx.constant_apply, Ideal.ofBits_zero_f32, zero_add]
  rfl

/-- Every device's result is its x coordinate's columns of the reference's. -/
theorem out_is_block {A : SW.Idx → EReal} (hA : Blocks m A) (d : Dev nD) (g : Buf (Elt Ideal) ((d : Thread nD τ).loc main_v1)) (h : IsOut m d g) :
    g = Layout.blockN ⟨2, ![16384, 1024]⟩ ⟨2, ![16384, 2048]⟩ (Layout.meshBlock [2, 2] ![[], [0]] d) (refOut A) := by
  funext i
  have hd : d.val < 4 := d.isLt
  have hi1 : (i 1).val < 1024 := (i 1).isLt
  obtain ⟨e, he, k, x, hg, h0, h1⟩ := out_at m d g h i
  let r : Fin 16384 := ⟨(i 0).val, (i 0).isLt⟩
  let c : Fin 2048 := ⟨1024 * (d.val / 2) + (i 1).val, by omega⟩
  have hsum : Red m e k.val x = refOut A (ix2 r c) :=
    (red_at m hA e k x r c h0 (by show 1024 * (d.val / 2) + (i 1).val = _; omega)).trans (refOut_at A r c).symm
  rw [Layout.blockN_apply, hg, hsum]
  refine congrArg (refOut A) (funext fun b => Fin.ext ?_)
  rw [Layout.TilesN.idx_val]
  have key0 : ∀ n s : ℕ, n = 0 → r.val = n * s + (i 0).val := by
    intro n s hn
    subst hn
    rw [Nat.zero_mul, Nat.zero_add]
  have key : ∀ n s : ℕ, n = d.val / 2 → s = 1024 → c.val = n * s + (i 1).val := by
    intro n s hn hs
    subst hn; subst hs
    show 1024 * (d.val / 2) + (i 1).val = _
    omega
  match b with
  | ⟨0, _⟩ => exact key0 _ _ rfl
  | ⟨1, _⟩ => exact key _ _ (by show (d.val / 2) % 2 * 1 + 0 = _; omega) rfl

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel on words: it terminates without fault, its argument unchanged and every counter at zero. The kernel read
    at exact arithmetic is the same text, so its run at words is this one's. -/
theorem frame_kernel : Cert.quiescent_Kernel := fun m ρ _ =>
  (θ_run Cert.KernelIdeal.defs _ _).mono (fun _ h => ⟨fun c => (h.1 c).1, h.2⟩) (Cert.KProof.run_main (F := Bits) m ρ)

/-- The kernel at exact arithmetic: the same. -/
theorem frame_kernelIdeal : Cert.quiescent_KernelIdeal := fun m ρ _ =>
  (θ_run Cert.KernelIdeal.defs _ _).mono (fun _ h => ⟨fun c => (h.1 c).1, h.2⟩) (Cert.KProof.run_main (F := Ideal) m ρ)

/-- The reference: a straight line of two host operations, with no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic every device's result is its columns of the reference's result. -/
theorem value : Cert.algebraic_KernelIdeal_ReferenceIdeal := fun m ρ m' ρ' _ hag =>
  ⟨Cert.KProof.refOut (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨Cert.KProof.out_is_block m hag c _ (h.1 c).2, (h.1 c).1⟩)
      (Cert.KProof.run_main (F := Ideal) m ρ),
    (θ_run Cert.ReferenceIdeal.defs _ _).mono (fun _ h => h 0) (Cert.ReferenceIdeal.Value.run (F := Ideal) m' ρ')⟩

/-- Every claim made of the kernel and its reference. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
